-- ==== Defs.lean ====
def Pre_Kernel (m : (ℓ : Loc Cert.Kernel.nD Cert.Kernel.τ Cert.Kernel.sig) → Buf (Elt Bits) ℓ) : Prop :=
  True

def Pre_Kernel_in_range [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference (m : (ℓ : Loc Cert.Reference.nD Cert.Reference.τ Cert.Reference.sig) → Buf (Elt Bits) ℓ) : Prop :=
  True

def Pre_Reference_in_range [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_in_range [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel_in_range m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_in_range [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference_in_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference_pre_in_range [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_in_range m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v13)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v13) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel)
    ∧ quiescent_Kernel_pre_in_range (hKernel := hKernel) (hPre_in_range := hPre_in_range)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference)
    ∧ quiescent_Reference_pre_in_range (hReference := hReference) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
    ∧ bitexact_Kernel_Reference_pre_in_range (hKernel := hKernel) (hReference := hReference) (hPre_in_range := hPre_in_range)
-- ==== Pre_in_range.lean ====
abbrev S16384x26 : Shape := ⟨2, ![16384, 26]⟩
abbrev S1000000x64 : Shape := ⟨2, ![1000000, 64]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : FVec F S1000000x64 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 1 := constantI S_ 1 1#1
  let main_v2 : IVec S_ 1 := (fun x v => Host.reduce IntOp.andi x v reducesTo_S16384x26_S_d0_1 h_S_) main_v1 main_c_0
  let main_c_1 : IVec S_ 32 := constantI S_ 32 1000000#32
  let main_v3 : IVec S16384x26 32 := broadcastInDim S16384x26 ![] bcast_S_S16384x26 main_c_1
  let main_v4 : IVec S16384x26 1 := cmpi .slt main_arg0 main_v3
  let main_c_2 : IVec S_ 1 := constantI S_ 1 1#1
  let main_v5 : IVec S_ 1 := (fun x v => Host.reduce IntOp.andi x v reducesTo_S16384x26_S_d0_1 h_S_) main_v4 main_c_2
  let main_v6 : IVec S_ 1 := andi main_v2 main_v5
  main_v6
-- ==== Kernel.lean ====
abbrev S16384x26 : Shape := ⟨2, ![16384, 26]⟩
abbrev S1000000x64 : Shape := ⟨2, ![1000000, 64]⟩
abbrev S64x1000000 : Shape := ⟨2, ![64, 1000000]⟩
abbrev S524288x128 : Shape := ⟨2, ![524288, 128]⟩
abbrev S64x16384 : Shape := ⟨2, ![64, 16384]⟩
abbrev S16384x128 : Shape := ⟨2, ![16384, 128]⟩
abbrev S16384x64 : Shape := ⟨2, ![16384, 64]⟩
abbrev S26x16384 : Shape := ⟨2, ![26, 16384]⟩
abbrev S1664x1x256 : Shape := ⟨3, ![1664, 1, 256]⟩
abbrev S_ : Shape := ⟨0, ![]⟩
abbrev S425984x128 : Shape := ⟨2, ![425984, 128]⟩
abbrev S2x1x1x256 : Shape := ⟨4, ![2, 1, 1, 256]⟩
abbrev S2 : Shape := ⟨1, ![2]⟩
abbrev S2x256x128 : Shape := ⟨3, ![2, 256, 128]⟩
abbrev S1x1x1x256 : Shape := ⟨4, ![1, 1, 1, 256]⟩
abbrev S1x1x256 : Shape := ⟨3, ![1, 1, 256]⟩
abbrev S1 : Shape := ⟨1, ![1]⟩
abbrev S1x256x128 : Shape := ⟨3, ![1, 256, 128]⟩
abbrev S256x128 : Shape := ⟨2, ![256, 128]⟩
abbrev S256 : Shape := ⟨1, ![256]⟩
abbrev S26x16384x128 : Shape := ⟨3, ![26, 16384, 128]⟩
abbrev S26x1x16384 : Shape := ⟨3, ![26, 1, 16384]⟩
abbrev S26x64x16384 : Shape := ⟨3, ![26, 64, 16384]⟩
abbrev S1x16384x128 : Shape := ⟨3, ![1, 16384, 128]⟩
abbrev S1x1x16384 : Shape := ⟨3, ![1, 1, 16384]⟩
abbrev S1x64x16384 : Shape := ⟨3, ![1, 64, 16384]⟩
abbrev S1x16384 : Shape := ⟨2, ![1, 16384]⟩
abbrev S128x16384 : Shape := ⟨2, ![128, 16384]⟩
abbrev S16384x26x64 : Shape := ⟨3, ![16384, 26, 64]⟩

abbrev nBuf : Table → Nat
  | .hbm => 18
  | .local .tc .vmem => 12
  | .local .scVector .vmem => 2
  | _ => 0

abbrev bufTy : (tb : Table) → Fin (nBuf tb) → BufTy
  | .hbm, ⟨0, _⟩ => ⟨S16384x26, .i32⟩
  | .hbm, ⟨1, _⟩ => ⟨S1000000x64, .f32⟩
  | .hbm, ⟨2, _⟩ => ⟨S64x1000000, .f32⟩
  | .hbm, ⟨3, _⟩ => ⟨S524288x128, .f32⟩
  | .hbm, ⟨4, _⟩ => ⟨S26x16384, .i32⟩
  | .hbm, ⟨5, _⟩ => ⟨S1664x1x256, .i32⟩
  | .hbm, ⟨6, _⟩ => ⟨S_, .i32⟩
  | .hbm, ⟨7, _⟩ => ⟨S1664x1x256, .i32⟩
  | .hbm, ⟨8, _⟩ => ⟨S1664x1x256, .i32⟩
  | .hbm, ⟨9, _⟩ => ⟨S425984x128, .f32⟩
  | .hbm, ⟨10, _⟩ => ⟨S26x16384x128, .f32⟩
  | .hbm, ⟨11, _⟩ => ⟨S26x16384, .i32⟩
  | .hbm, ⟨12, _⟩ => ⟨S_, .i32⟩
  | .hbm, ⟨13, _⟩ => ⟨S26x16384, .i32⟩
  | .hbm, ⟨14, _⟩ => ⟨S26x16384, .i32⟩
  | .hbm, ⟨15, _⟩ => ⟨S26x1x16384, .i32⟩
  | .hbm, ⟨16, _⟩ => ⟨S26x64x16384, .f32⟩
  | .hbm, ⟨17, _⟩ => ⟨S16384x26x64, .f32⟩
  | .local .tc .vmem, ⟨0, _⟩ => ⟨S64x16384, .f32⟩
  | .local .tc .vmem, ⟨1, _⟩ => ⟨S64x16384, .f32⟩
  | .local .tc .vmem, ⟨2, _⟩ => ⟨S64x16384, .f32⟩
  | .local .tc .vmem, ⟨3, _⟩ => ⟨S64x16384, .f32⟩
  | .local .tc .vmem, ⟨4, _⟩ => ⟨S16384x128, .f32⟩
  | .local .tc .vmem, ⟨5, _⟩ => ⟨S16384x128, .f32⟩
  | .local .tc .vmem, ⟨6, _⟩ => ⟨S1x16384x128, .f32⟩
  | .local .tc .vmem, ⟨7, _⟩ => ⟨S1x16384x128, .f32⟩
  | .local .tc .vmem, ⟨8, _⟩ => ⟨S1x1x16384, .i32⟩
  | .local .tc .vmem, ⟨9, _⟩ => ⟨S1x1x16384, .i32⟩
  | .local .tc .vmem, ⟨10, _⟩ => ⟨S1x64x16384, .f32⟩
  | .local .tc .vmem, ⟨11, _⟩ => ⟨S1x64x16384, .f32⟩
  | .local .scVector .vmem, ⟨0, _⟩ => ⟨S2x1x1x256, .i32⟩
  | .local .scVector .vmem, ⟨1, _⟩ => ⟨S2x256x128, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v1_scv : Ref sig .scVector := ⟨.hbm, 3, rfl⟩
abbrev main_v5_scv : Ref sig .scVector := ⟨.hbm, 8, rfl⟩
abbrev main_v6_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c32_i32 : BitVec 32 := 32#32
  let v0 : BitVec 32 := Scalar.addi arg0 c32_i32
  let c61_i32 : BitVec 32 := 61#32
  let v1 : BitVec 32 := Scalar.minsi v0 c61_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 : Fin 4 → Nat :=
  let c0_i32_13_r0 : BitVec 32 := 0#32
  let c2_i32_r0 : BitVec 32 := 2#32
  let v21_r0 : BitVec 32 := Scalar.remui c0_i32_13_r0 c2_i32_r0
  let c0_i32_15_r0 : BitVec 32 := 0#32
  let c0_i32_16_r0 : BitVec 32 := 0#32
  let c0_i32_17_r0 : BitVec 32 := 0#32
  ![v21_r0.toNat, 0, 0, 0]
def k1_off2 (i : grid1.Coords) : Fin 3 → Nat :=
  let c1_i32_14_r0 : BitVec 32 := 1#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c52_i32 : BitVec 32 := 52#32
  let v4 : BitVec 32 := Scalar.muli v3 c52_i32
  let v7_r0 : BitVec 32 := Scalar.addi c0_i32_1_r0 v4
  let v22_r0 : BitVec 32 := Scalar.muli c1_i32_14_r0 v7_r0
  let c0_i32_18_r0 : BitVec 32 := 0#32
  let c0_i32_19_r0 : BitVec 32 := 0#32
  ![v22_r0.toNat, 0, 0]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_31_r0 : BitVec 32 := 0#32
  let c52_i32_32_r0 : BitVec 32 := 52#32
  let v32_r0 : BitVec 32 := Scalar.addi c0_i32_31_r0 c52_i32_32_r0
  let c1_i32_33_r0 : BitVec 32 := 1#32
  ⟨c0_i32_31_r0, v32_r0, c1_i32_33_r0⟩
def k1_off4 (arg6_r0 : BitVec 32) : Fin 4 → Nat :=
  let c2_i32_104_r0 : BitVec 32 := 2#32
  let v144_r0 : BitVec 32 := Scalar.remui arg6_r0 c2_i32_104_r0
  let c0_i32_106_r0 : BitVec 32 := 0#32
  let c0_i32_107_r0 : BitVec 32 := 0#32
  let c0_i32_108_r0 : BitVec 32 := 0#32
  ![v144_r0.toNat, 0, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c52_i32 : BitVec 32 := 52#32
  let v4 : BitVec 32 := Scalar.muli v3 c52_i32
  let v66_r0 : BitVec 32 := Scalar.addi arg10_r0 v4
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c52_i32_66_r0 : BitVec 32 := 52#32
  let v74_r0 : BitVec 1 := Scalar.cmpi .eq v73_r0 c52_i32_66_r0
  let c0_i32_67_r0 : BitVec 32 := 0#32
  let v75_r0 : BitVec 32 := Scalar.select v74_r0 c0_i32_67_r0 v73_r0
  let v76_r0 : BitVec 32 := Scalar.addi v75_r0 v4
  let v82_r0 : BitVec 1 := Scalar.cmpi .ne v66_r0 v76_r0
  let c0_i32_31_r0 : BitVec 32 := 0#32
  let c1_i32_33_r0 : BitVec 32 := 1#32
  let arg5_r0 : BitVec 32 := Scf.iv c0_i32_31_r0 c1_i32_33_r0 k1_t1
  let c51_i32_72_r0 : BitVec 32 := 51#32
  let v83_r0 : BitVec 1 := Scalar.cmpi .sge arg5_r0 c51_i32_72_r0
  let true_73_r0 : BitVec 1 := 1#1
  let v84_r0 : BitVec 1 := Scalar.xori v83_r0 true_73_r0
  let v85_r0 : BitVec 1 := Scalar.andi v82_r0 v84_r0
  let true_74_r0 : BitVec 1 := 1#1
  let v86_r0 : BitVec 1 := Scalar.andi v85_r0 true_74_r0
  let v87_r0 : BitVec 32 := Scalar.extui v86_r0
  let c0_i32_75_r0 : BitVec 32 := 0#32
  let v88_r0 : BitVec 1 := Scalar.cmpi .ne v87_r0 c0_i32_75_r0
  v88_r0

def k1_off5 (i : grid1.Coords) (arg10_r0 : BitVec 32) : Fin 3 → Nat :=
  let c1_i32_105_r0 : BitVec 32 := 1#32
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c52_i32_66_r0 : BitVec 32 := 52#32
  let v74_r0 : BitVec 1 := Scalar.cmpi .eq v73_r0 c52_i32_66_r0
  let c0_i32_67_r0 : BitVec 32 := 0#32
  let v75_r0 : BitVec 32 := Scalar.select v74_r0 c0_i32_67_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c52_i32 : BitVec 32 := 52#32
  let v4 : BitVec 32 := Scalar.muli v3 c52_i32
  let v76_r0 : BitVec 32 := Scalar.addi v75_r0 v4
  let v145_r0 : BitVec 32 := Scalar.muli c1_i32_105_r0 v76_r0
  let c0_i32_109_r0 : BitVec 32 := 0#32
  let c0_i32_110_r0 : BitVec 32 := 0#32
  ![v145_r0.toNat, 0, 0]
def k1_off6 (arg6_r0 : BitVec 32) : Fin 1 → Nat :=
  let c2_i32_104_r0 : BitVec 32 := 2#32
  let v144_r0 : BitVec 32 := Scalar.remui arg6_r0 c2_i32_104_r0
  ![v144_r0.toNat]
def k1_off7 (arg7_r0 : BitVec 32) : Fin 4 → Nat :=
  let c2_i32_105_r0 : BitVec 32 := 2#32
  let v145_r0 : BitVec 32 := Scalar.remui arg7_r0 c2_i32_105_r0
  let c0_i32_106_r0 : BitVec 32 := 0#32
  let c0_i32_107_r0 : BitVec 32 := 0#32
  let c0_i32_108_r0 : BitVec 32 := 0#32
  ![v145_r0.toNat, 0, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c52_i32 : BitVec 32 := 52#32
  let v4 : BitVec 32 := Scalar.muli v3 c52_i32
  let v66_r0 : BitVec 32 := Scalar.addi arg10_r0 v4
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c51_i32_63_r0 : BitVec 32 := 51#32
  let v70_r0 : BitVec 32 := Scalar.select v69_r0 c51_i32_63_r0 v68_r0
  let v71_r0 : BitVec 32 := Scalar.addi v70_r0 v4
  let v96_r0 : BitVec 1 := Scalar.cmpi .ne v66_r0 v71_r0
  let c0_i32_31_r0 : BitVec 32 := 0#32
  let c1_i32_33_r0 : BitVec 32 := 1#32
  let arg5_r0 : BitVec 32 := Scf.iv c0_i32_31_r0 c1_i32_33_r0 k1_t1
  let c0_i32_58_r0 : BitVec 32 := 0#32
  let v64_r0 : BitVec 1 := Scalar.cmpi .eq arg5_r0 c0_i32_58_r0
  let v97_r0 : BitVec 1 := Scalar.ori v96_r0 v64_r0
  let c0_i32_80_r0 : BitVec 32 := 0#32
  let v98_r0 : BitVec 1 := Scalar.cmpi .sge arg5_r0 c0_i32_80_r0
  let v99_r0 : BitVec 1 := Scalar.andi v97_r0 v98_r0
  let v100_r0 : BitVec 32 := Scalar.extui v99_r0
  let c0_i32_81_r0 : BitVec 32 := 0#32
  let v101_r0 : BitVec 1 := Scalar.cmpi .ne v100_r0 c0_i32_81_r0
  v101_r0

def k1_off8 (i : grid1.Coords) (arg10_r0 : BitVec 32) : Fin 3 → Nat :=
  let c1_i32_104_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c52_i32 : BitVec 32 := 52#32
  let v4 : BitVec 32 := Scalar.muli v3 c52_i32
  let v66_r0 : BitVec 32 := Scalar.addi arg10_r0 v4
  let v144_r0 : BitVec 32 := Scalar.muli c1_i32_104_r0 v66_r0
  let c0_i32_109_r0 : BitVec 32 := 0#32
  let c0_i32_110_r0 : BitVec 32 := 0#32
  ![v144_r0.toNat, 0, 0]
def k1_off9 (arg7_r0 : BitVec 32) : Fin 1 → Nat :=
  let c2_i32_105_r0 : BitVec 32 := 2#32
  let v145_r0 : BitVec 32 := Scalar.remui arg7_r0 c2_i32_105_r0
  ![v145_r0.toNat]
def k1_off10 (arg8_r0 : BitVec 32) : Fin 3 → Nat :=
  let c2_i32_85_r0 : BitVec 32 := 2#32
  let v109_r0 : BitVec 32 := Scalar.remui arg8_r0 c2_i32_85_r0
  let c0_i32_104_r1 : BitVec 32 := 0#32
  let c0_i32_105_r1 : BitVec 32 := 0#32
  ![v109_r0.toNat, 0, 0]

def k1_chk2 (arg8_r0 : BitVec 32) : Prop :=
  (∀ a, (k1_off10 arg8_r0) a + S1x256x128.size a ≤ S2x256x128.size a)
theorem k1_off10_inb : ∀ (arg8_r0 : BitVec 32) (k1_hw2 : k1_chk2 arg8_r0), ∀ a, (k1_off10 arg8_r0) a + S1x256x128.size a ≤ S2x256x128.size a := fun arg8_r0 k1_hw2 => k1_hw2

def k1_off11 (arg7_r0 : BitVec 32) : Fin 4 → Nat :=
  let c2_i32_84_r0 : BitVec 32 := 2#32
  let v108_r0 : BitVec 32 := Scalar.remui arg7_r0 c2_i32_84_r0
  let c0_i32_106_r1 : BitVec 32 := 0#32
  let c0_i32_107_r1 : BitVec 32 := 0#32
  let c0_i32_108_r1 : BitVec 32 := 0#32
  ![v108_r0.toNat, 0, 0, 0]

def k1_chk3 (arg7_r0 : BitVec 32) : Prop :=
  (∀ a, (k1_off11 arg7_r0) a + S1x1x1x256.size a ≤ S2x1x1x256.size a)
theorem k1_off11_inb : ∀ (arg7_r0 : BitVec 32) (k1_hw3 : k1_chk3 arg7_r0), ∀ a, (k1_off11 arg7_r0) a + S1x1x1x256.size a ≤ S2x1x1x256.size a := fun arg7_r0 k1_hw3 => k1_hw3

def k1_off12 (arg8_r0 : BitVec 32) : Fin 3 → Nat :=
  let c2_i32_104_r0 : BitVec 32 := 2#32
  let v144_r0 : BitVec 32 := Scalar.remui arg8_r0 c2_i32_104_r0
  let c0_i32_106_r0 : BitVec 32 := 0#32
  let c0_i32_107_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c52_i32 : BitVec 32 := 52#32
  let v4 : BitVec 32 := Scalar.muli v3 c52_i32
  let v66_r0 : BitVec 32 := Scalar.addi arg10_r0 v4
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c52_i32_66_r0 : BitVec 32 := 52#32
  let v74_r0 : BitVec 1 := Scalar.cmpi .eq v73_r0 c52_i32_66_r0
  let c0_i32_67_r0 : BitVec 32 := 0#32
  let v75_r0 : BitVec 32 := Scalar.select v74_r0 c0_i32_67_r0 v73_r0
  let v76_r0 : BitVec 32 := Scalar.addi v75_r0 v4
  let v115_r0 : BitVec 1 := Scalar.cmpi .ne v66_r0 v76_r0
  let c0_i32_31_r0 : BitVec 32 := 0#32
  let c1_i32_33_r0 : BitVec 32 := 1#32
  let arg5_r0 : BitVec 32 := Scf.iv c0_i32_31_r0 c1_i32_33_r0 k1_t1
  let c51_i32_59_r0 : BitVec 32 := 51#32
  let v65_r0 : BitVec 1 := Scalar.cmpi .eq arg5_r0 c51_i32_59_r0
  let v116_r0 : BitVec 1 := Scalar.ori v115_r0 v65_r0
  let v117_r0 : BitVec 32 := Scalar.extui v116_r0
  let c0_i32_89_r0 : BitVec 32 := 0#32
  let v118_r0 : BitVec 1 := Scalar.cmpi .ne v117_r0 c0_i32_89_r0
  v118_r0

def k1_off13 (i : grid1.Coords) (arg10_r0 : BitVec 32) : Fin 2 → Nat :=
  let c256_i32_105_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c52_i32 : BitVec 32 := 52#32
  let v4 : BitVec 32 := Scalar.muli v3 c52_i32
  let v66_r0 : BitVec 32 := Scalar.addi arg10_r0 v4
  let v145_r0 : BitVec 32 := Scalar.muli c256_i32_105_r0 v66_r0
  let c0_i32_108_r0 : BitVec 32 := 0#32
  ![v145_r0.toNat, 0]
def k1_off14 (arg8_r0 : BitVec 32) : Fin 1 → Nat :=
  let c2_i32_104_r0 : BitVec 32 := 2#32
  let v144_r0 : BitVec 32 := Scalar.remui arg8_r0 c2_i32_104_r0
  ![v144_r0.toNat]
def k1_off15 (arg9_r0 : BitVec 32) : Fin 3 → Nat :=
  let c2_i32_104_r0 : BitVec 32 := 2#32
  let v144_r0 : BitVec 32 := Scalar.remui arg9_r0 c2_i32_104_r0
  let c0_i32_106_r0 : BitVec 32 := 0#32
  let c0_i32_107_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c52_i32 : BitVec 32 := 52#32
  let v4 : BitVec 32 := Scalar.muli v3 c52_i32
  let v66_r0 : BitVec 32 := Scalar.addi arg10_r0 v4
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c51_i32_63_r0 : BitVec 32 := 51#32
  let v70_r0 : BitVec 32 := Scalar.select v69_r0 c51_i32_63_r0 v68_r0
  let v71_r0 : BitVec 32 := Scalar.addi v70_r0 v4
  let v128_r0 : BitVec 1 := Scalar.cmpi .ne v66_r0 v71_r0
  let c0_i32_31_r0 : BitVec 32 := 0#32
  let c1_i32_33_r0 : BitVec 32 := 1#32
  let arg5_r0 : BitVec 32 := Scf.iv c0_i32_31_r0 c1_i32_33_r0 k1_t1
  let c0_i32_58_r0 : BitVec 32 := 0#32
  let v64_r0 : BitVec 1 := Scalar.cmpi .eq arg5_r0 c0_i32_58_r0
  let true_95_r0 : BitVec 1 := 1#1
  let v129_r0 : BitVec 1 := Scalar.xori v64_r0 true_95_r0
  let v130_r0 : BitVec 1 := Scalar.andi v128_r0 v129_r0
  let v131_r0 : BitVec 32 := Scalar.extui v130_r0
  let c0_i32_96_r0 : BitVec 32 := 0#32
  let v132_r0 : BitVec 1 := Scalar.cmpi .ne v131_r0 c0_i32_96_r0
  v132_r0

def k1_off16 (i : grid1.Coords) (arg10_r0 : BitVec 32) : Fin 2 → Nat :=
  let c256_i32_105_r0 : BitVec 32 := 256#32
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c51_i32_63_r0 : BitVec 32 := 51#32
  let v70_r0 : BitVec 32 := Scalar.select v69_r0 c51_i32_63_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c52_i32 : BitVec 32 := 52#32
  let v4 : BitVec 32 := Scalar.muli v3 c52_i32
  let v71_r0 : BitVec 32 := Scalar.addi v70_r0 v4
  let v145_r0 : BitVec 32 := Scalar.muli c256_i32_105_r0 v71_r0
  let c0_i32_108_r0 : BitVec 32 := 0#32
  ![v145_r0.toNat, 0]
def k1_off17 (arg9_r0 : BitVec 32) : Fin 1 → Nat :=
  let c2_i32_104_r0 : BitVec 32 := 2#32
  let v144_r0 : BitVec 32 := Scalar.remui arg9_r0 c2_i32_104_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x1x256.size a ≤ S2x1x1x256.size a) ∧
  (∀ (k1_h1 : k1_cond1 i k1_t1 arg10_r0 = 1#1), ∀ a, (k1_off5 i arg10_r0) a + S1x1x256.size a ≤ S1664x1x256.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x1x256.size a ≤ S2x1x1x256.size a) ∧
  (∀ (k1_h2 : k1_cond2 i k1_t1 arg10_r0 = 1#1), ∀ a, (k1_off8 i arg10_r0) a + S1x1x256.size a ≤ S1664x1x256.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x256x128.size a ≤ S2x256x128.size a) ∧
  (∀ (k1_h5 : k1_cond5 i k1_t1 arg10_r0 = 1#1), ∀ a, (k1_off13 i arg10_r0) a + S256x128.size a ≤ S425984x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x256x128.size a ≤ S2x256x128.size a) ∧
  (∀ (k1_h7 : k1_cond7 i k1_t1 arg10_r0 = 1#1), ∀ a, (k1_off16 i arg10_r0) a + S256x128.size a ≤ S425984x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x1x256.size a ≤ S2x1x1x256.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x1x256.size a ≤ S1664x1x256.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x1x256.size a ≤ S2x1x1x256.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x1x256.size a ≤ S1664x1x256.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x256x128.size a ≤ S2x256x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S256x128.size a ≤ S425984x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x256x128.size a ≤ S2x256x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S256x128.size a ≤ S425984x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_51_r0 : BitVec 32 := 2#32
  let v54_r0 : BitVec 32 := Scalar.remui v33_3_r0 c2_i32_51_r0
  let c0_i32_52_r0 : BitVec 32 := 0#32
  let c0_i32_53_r0 : BitVec 32 := 0#32
  ![v54_r0.toNat, 0, 0]

def k1_off19 (i : grid1.Coords) (v33_4_r0 : BitVec 32) : Fin 2 → Nat :=
  let c256_i32_r0 : BitVec 32 := 256#32
  let true_36_r0 : BitVec 1 := 1#1
  let c1_i32_35_r0 : BitVec 32 := 1#32
  let v34_r0 : BitVec 32 := Scalar.subi v33_4_r0 c1_i32_35_r0
  let v35_r0 : BitVec 32 := Scalar.select true_36_r0 v34_r0 v33_4_r0
  let c_m1_i32_37_r0 : BitVec 32 := 4294967295#32
  let v36_r0 : BitVec 1 := Scalar.cmpi .eq v35_r0 c_m1_i32_37_r0
  let c51_i32_38_r0 : BitVec 32 := 51#32
  let v37_r0 : BitVec 32 := Scalar.select v36_r0 c51_i32_38_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c52_i32 : BitVec 32 := 52#32
  let v4 : BitVec 32 := Scalar.muli v3 c52_i32
  let v38_r0 : BitVec 32 := Scalar.addi v37_r0 v4
  let v55_r0 : BitVec 32 := Scalar.muli c256_i32_r0 v38_r0
  let c0_i32_54_r0 : BitVec 32 := 0#32
  ![v55_r0.toNat, 0]

def k1_chk5 (i : grid1.Coords) (v33_4_r0 : BitVec 32) : Prop :=
  (∀ a, (k1_off19 i v33_4_r0) a + S256x128.size a ≤ S425984x128.size a)
theorem k1_off19_inb : ∀ (i : grid1.Coords) (v33_4_r0 : BitVec 32) (k1_hw5 : k1_chk5 i v33_4_r0), ∀ a, (k1_off19 i v33_4_r0) a + S256x128.size a ≤ S425984x128.size a := fun i v33_4_r0 k1_hw5 => k1_hw5

def k1_off20 (v33_3_r0 : BitVec 32) : Fin 1 → Nat :=
  let c2_i32_51_r0 : BitVec 32 := 2#32
  let v54_r0 : BitVec 32 := Scalar.remui v33_3_r0 c2_i32_51_r0
  ![v54_r0.toNat]
def k1_off21 (v33_3_r0 : BitVec 32) : Fin 3 → Nat :=
  let c2_i32_51_r0 : BitVec 32 := 2#32
  let v54_r0 : BitVec 32 := Scalar.remui v33_3_r0 c2_i32_51_r0
  let c0_i32_56_r0 : BitVec 32 := 0#32
  let c0_i32_57_r0 : BitVec 32 := 0#32
  ![v54_r0.toNat, 0, 0]

def k1_chk4 (v33_3_r0 : BitVec 32) : Prop :=
  (∀ a, (k1_off18 v33_3_r0) a + S1x256x128.size a ≤ S2x256x128.size a) ∧
  (∀ a, (k1_off20 v33_3_r0) a + S1.size a ≤ S2.size a) ∧
  (∀ a, (k1_off21 v33_3_r0) a + S1x256x128.size a ≤ S2x256x128.size a)
theorem k1_off18_inb : ∀ (v33_3_r0 : BitVec 32) (k1_hw4 : k1_chk4 v33_3_r0), ∀ a, (k1_off18 v33_3_r0) a + S1x256x128.size a ≤ S2x256x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x256x128.size a ≤ S2x256x128.size a := fun v33_3_r0 k1_hw4 => k1_hw4.2.2

abbrev grid2 : Pipeline.Grid := ⟨2, ![26, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x16384x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x16384 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x64x16384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16384x26 : Shape := ⟨2, ![16384, 26]⟩
abbrev S1000000x64 : Shape := ⟨2, ![1000000, 64]⟩
abbrev S_ : Shape := ⟨0, ![]⟩
abbrev S16384x26x1 : Shape := ⟨3, ![16384, 26, 1]⟩
abbrev S1 : Shape := ⟨1, ![1]⟩
abbrev S1x1x1 : Shape := ⟨3, ![1, 1, 1]⟩
abbrev S16384x26x64 : Shape := ⟨3, ![16384, 26, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S1000000x64, .f32⟩
  | .hbm, ⟨2, _⟩ => ⟨S_, .i32⟩
  | .hbm, ⟨3, _⟩ => ⟨S16384x26, .i32⟩
  | .hbm, ⟨4, _⟩ => ⟨S16384x26, .i1⟩
  | .hbm, ⟨5, _⟩ => ⟨S_, .i32⟩
  | .hbm, ⟨6, _⟩ => ⟨S16384x26, .i32⟩
  | .hbm, ⟨7, _⟩ => ⟨S16384x26, .i32⟩
  | .hbm, ⟨8, _⟩ => ⟨S16384x26, .i32⟩
  | .hbm, ⟨9, _⟩ => ⟨S16384x26x1, .i32⟩
  | .hbm, ⟨10, _⟩ => ⟨S1, .i32⟩
  | .hbm, ⟨11, _⟩ => ⟨S_, .i32⟩
  | .hbm, ⟨12, _⟩ => ⟨S16384x26x1, .i32⟩
  | .hbm, ⟨13, _⟩ => ⟨S16384x26x1, .i1⟩
  | .hbm, ⟨14, _⟩ => ⟨S1x1x1, .i32⟩
  | .hbm, ⟨15, _⟩ => ⟨S16384x26x1, .i32⟩
  | .hbm, ⟨16, _⟩ => ⟨S16384x26x1, .i1⟩
  | .hbm, ⟨17, _⟩ => ⟨S16384x26x1, .i1⟩
  | .hbm, ⟨18, _⟩ => ⟨S_, .i1⟩
  | .hbm, ⟨19, _⟩ => ⟨S16384x26, .i1⟩
  | .hbm, ⟨20, _⟩ => ⟨S16384x26x64, .f32⟩
  | .hbm, ⟨21, _⟩ => ⟨S16384x26x64, .i1⟩
  | .hbm, ⟨22, _⟩ => ⟨S_, .f32⟩
  | .hbm, ⟨23, _⟩ => ⟨S16384x26x64, .f32⟩
  | .hbm, ⟨24, _⟩ => ⟨S16384x26x64, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Setup.lean ====
/-
  The launch as the SparseCore launch theorem sees it: the program's configuration and body table, the facts about its
  handshake semaphores, the ghost state (the handshakes' rounds and the transfers' counters), and names for the buffers
  that the SparseCore call touches.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ShareLeaves
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The label signature of the bodies below the SparseCore dispatch: the kernels and the two pipelined regions. -/
abbrev ΛP : Labels := Pipeline.Sig Λ₀ (Fin 2) fun p => (pcfgs (F := F) p).Adm
/-- The program's SparseCore configuration. -/
abbrev K : SparseCore.Cfg τ sig (ΛP (F := F)) 1 := sc (F := F)
/-- The body table below the SparseCore dispatch. -/
abbrev D [FloatOps F] : Defs nD τ sig (Elt F) (ΛP (F := F)) := Pipeline.defs pcfgs defs₀
/-- No kernel of the program calls itself: no recursion variants. -/
abbrev 𝒱₀ : Variants := Variants.none
/-- The variants with the launch's own. -/
abbrev 𝒱 : Variants := 𝒱₀.lift
/-- The variant a kernel's body starts from. -/
abbrev v₀ : 𝒱.V := Sum.inl none

/-- The handshake semaphores are distinct and nobody's scoped storage. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The ghost state of the handshakes. -/
abbrev UH : Type := URounds (GSem nD τ sig) ℕ
/-- The ghost state of the two pipelined regions' staging cells. -/
abbrev UP : Type := URounds (GSem nD τ sig) Unit
/-- The ghost state: the handshakes', the regions' and the transfers' counters. -/
abbrev UU : Type := UH × (UP × Counters)

local notation "𝕄" => MT nD τ sig (HIx 1) (Elt F) ℕ UU ℕ

/-- The handshakes' ghost state inside the whole. -/
abbrev EH : Emb UH (MT nD τ sig (HIx 1) (Elt F) ℕ UU ℕ) := embL
/-- The regions' ghost state inside the whole. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by
  unfold EP embR; infer_instance

/-- No table is prefetched: the regions' configurations at the only tables there are. -/
abbrev adm : (p : Fin 2) → (pcfgs (F := F) p).Adm := fun p => (cfgs p).toPCfg_adm

/-- What region `p` on device `d` starts from: its cells' ghost state and the tokens of its transfers. -/
def regionGhost (p : Fin 2) (d : Dev nD) : sProp 𝕄 :=
  iprop(Pipeline.cellsGhost (Pipeline.pin (pcfgs (F := F)) adm) EP p d ∗ Pipeline.toksInit (Pipeline.pin (pcfgs (F := F)) adm) EP p d)

/-! ## The buffers -/

/-- An array in HBM of device `d`, as `@main` names it. -/
abbrev hLoc (d : Dev nD) (b : Ref sig .tc) : Loc nD τ sig := (SparseCore.T d).loc b
/-- The packed table. -/
abbrev xLoc (d : Dev nD) : Loc nD τ sig := hLoc d main_v1
/-- The row numbers. -/
abbrev iLoc (d : Dev nD) : Loc nD τ sig := hLoc d main_v5
/-- The gathered rows. -/
abbrev oLoc (d : Dev nD) : Loc nD τ sig := hLoc d main_v6

end Cert.Proof.Run

end
-- ==== Proof.Words.lean ====
/-
  The words of the SparseCore kernel's loop. The kernel carries five words through its 52 trips; here are their values at
  every trip, the values of the conditions, offsets and checks computed from them, and the words after a trip.
-/
module

public import proofs.«01_k».proof.Proof.Setup

@[expose] public section

namespace Cert.Proof.Run

open Cert.KernelIdeal Cert.KernelIdeal.Gen
open Idealize.ShloMosaic

/-- The number of trips. -/
theorem trips_eq : k1_t1_loop.trips = 52 := by decide +kernel

/-- The tile's first block: tile `s` of core `c` is tile `s + 16 c`, and has 52 blocks. -/
def base (i : grid1.Coords) : ℕ := 52 * (i 1).val + 832 * (i 0).val

theorem base_le (i : grid1.Coords) : base i + 52 ≤ 1664 := by revert i; decide +kernel

/-- The word of the tile's first block. -/
def baseW (i : grid1.Coords) : BitVec 32 :=
  Scalar.muli (Scalar.addi (Scalar.addi 0#32 (Scalar.muli (BitVec.ofNat 32 (i 1).val) 1#32))
    (Scalar.muli (BitVec.ofNat 32 (i 0).val) 16#32)) 52#32

/-- The five carried words before trip `t`. -/
def words (t : ℕ) : BitVec 32 × BitVec 32 × BitVec 32 × BitVec 32 × BitVec 32 :=
  (BitVec.ofNat 32 (min (t + 1) 52), BitVec.ofNat 32 t, BitVec.ofNat 32 t, BitVec.ofNat 32 (t - 1), BitVec.ofNat 32 (t % 52))

abbrev w6 (t : ℕ) : BitVec 32 := BitVec.ofNat 32 (min (t + 1) 52)
abbrev w7 (t : ℕ) : BitVec 32 := BitVec.ofNat 32 t
abbrev w9 (t : ℕ) : BitVec 32 := BitVec.ofNat 32 (t - 1)
abbrev w10 (t : ℕ) : BitVec 32 := BitVec.ofNat 32 (t % 52)

/-- Every trip but the last fetches the next block's row numbers. -/
theorem cond1_iff : ∀ (i : grid1.Coords) (t : Fin k1_t1_loop.trips), k1_cond1 i t (w10 t.val) = 1#1 ↔ t.val < 51 := by decide +kernel
/-- Every trip waits for its row numbers. -/
theorem cond2_true : ∀ (i : grid1.Coords) (t : Fin k1_t1_loop.trips), k1_cond2 i t (w10 t.val) = 1#1 := by decide +kernel
/-- Every trip sends its rows out. -/
theorem cond5_true : ∀ (i : grid1.Coords) (t : Fin k1_t1_loop.trips), k1_cond5 i t (w10 t.val) = 1#1 := by decide +kernel
/-- Every trip but the first waits for the rows sent by the trip before it. -/
theorem cond7_iff : ∀ (i : grid1.Coords) (t : Fin k1_t1_loop.trips), k1_cond7 i t (w10 t.val) = 1#1 ↔ 1 ≤ t.val := by decide +kernel

theorem off4_eq : ∀ t : Fin k1_t1_loop.trips, t.val < 51 → k1_off4 (w6 t.val) = ![(t.val + 1) % 2, 0, 0, 0] := by decide +kernel
theorem off5_eq : ∀ (i : grid1.Coords) (t : Fin k1_t1_loop.trips), t.val < 51 → k1_off5 i (w10 t.val) = ![base i + (t.val + 1), 0, 0] := by decide +kernel
theorem off6_eq : ∀ t : Fin k1_t1_loop.trips, t.val < 51 → k1_off6 (w6 t.val) = ![(t.val + 1) % 2] := by decide +kernel
theorem off7_eq : ∀ t : Fin k1_t1_loop.trips, k1_off7 (w7 t.val) = ![t.val % 2, 0, 0, 0] := by decide +kernel
theorem off8_eq : ∀ (i : grid1.Coords) (t : Fin k1_t1_loop.trips), k1_off8 i (w10 t.val) = ![base i + t.val, 0, 0] := by decide +kernel
theorem off9_eq : ∀ t : Fin k1_t1_loop.trips, k1_off9 (w7 t.val) = ![t.val % 2] := by decide +kernel
theorem off10_eq : ∀ t : Fin k1_t1_loop.trips, k1_off10 (w7 t.val) = ![t.val % 2, 0, 0] := by decide +kernel
theorem off11_eq : ∀ t : Fin k1_t1_loop.trips, k1_off11 (w7 t.val) = ![t.val % 2, 0, 0, 0] := by decide +kernel
theorem off12_eq : ∀ t : Fin k1_t1_loop.trips, k1_off12 (w7 t.val) = ![t.val % 2, 0, 0] := by decide +kernel
theorem off13_eq : ∀ (i : grid1.Coords) (t : Fin k1_t1_loop.trips), k1_off13 i (w10 t.val) = ![256 * (base i + t.val), 0] := by decide +kernel
theorem off14_eq : ∀ t : Fin k1_t1_loop.trips, k1_off14 (w7 t.val) = ![t.val % 2] := by decide +kernel
theorem off15_eq : ∀ t : Fin k1_t1_loop.trips, 1 ≤ t.val → k1_off15 (w9 t.val) = ![(t.val - 1) % 2, 0, 0] := by decide +kernel
theorem off16_eq : ∀ (i : grid1.Coords) (t : Fin k1_t1_loop.trips), 1 ≤ t.val → k1_off16 i (w10 t.val) = ![256 * (base i + (t.val - 1)), 0] := by decide +kernel
theorem off17_eq : ∀ t : Fin k1_t1_loop.trips, 1 ≤ t.val → k1_off17 (w9 t.val) = ![(t.val - 1) % 2] := by decide +kernel
theorem off18_eq : k1_off18 (w9 52) = ![1, 0, 0] := by decide +kernel
theorem off19_eq : ∀ i : grid1.Coords, k1_off19 i (w10 52) = ![256 * (base i + 51), 0] := by decide +kernel
theorem off20_eq : k1_off20 (w9 52) = ![1] := by decide +kernel
theorem off21_eq : k1_off21 (w9 52) = ![1, 0, 0] := by decide +kernel

/-- The checks hold at every trip. -/
theorem chk3_ok : ∀ t : Fin k1_t1_loop.trips, k1_chk3 (w7 t.val) := by decide +kernel
theorem chk2_ok : ∀ t : Fin k1_t1_loop.trips, k1_chk2 (w7 t.val) := by decide +kernel
theorem chk1_ok : ∀ (i : grid1.Coords) (t : Fin k1_t1_loop.trips), k1_chk1 i t (w6 t.val) (w7 t.val) (w7 t.val) (w9 t.val) (w10 t.val) := by decide +kernel
theorem chk5_ok : ∀ i : grid1.Coords, k1_chk5 i (w10 52) := by decide +kernel
theorem chk4_ok : k1_chk4 (w9 52) := by decide +kernel

/-- The words after trip `t`, as the loop's body computes them from the words before it. -/
def nextWords (i : grid1.Coords) (t : Fin k1_t1_loop.trips) (a6 a7 a8 a9 a10 : BitVec 32) : BitVec 32 × BitVec 32 × BitVec 32 × BitVec 32 × BitVec 32 :=
  let v4 := baseW i
  let a5 : BitVec 32 := Scf.iv 0#32 1#32 t
  let v64 : BitVec 1 := Scalar.cmpi .eq a5 0#32
  let v65 : BitVec 1 := Scalar.cmpi .eq a5 51#32
  let v66 := Scalar.addi a10 v4
  let v67 := Scalar.subi a10 1#32
  let v68 := Scalar.select 1#1 v67 a10
  let v70 := Scalar.select (Scalar.cmpi .eq v68 4294967295#32) 51#32 v68
  let v71 := Scalar.addi v70 v4
  let v73 := Scalar.select 1#1 (Scalar.addi a10 1#32) a10
  let v75 := Scalar.select (Scalar.cmpi .eq v73 52#32) 0#32 v73
  let v76 := Scalar.addi v75 v4
  let v85 := Scalar.andi (Scalar.cmpi .ne v66 v76) (Scalar.xori (Scalar.cmpi .sge a5 51#32) 1#1)
  let v91 := Scalar.select (Scalar.andi v85 1#1) (Scalar.addi a6 1#32) a6
  let v116 := Scalar.ori (Scalar.cmpi .ne v66 v76) v65
  let v121 := Scalar.select (Scalar.andi v116 1#1) (Scalar.addi a8 1#32) a8
  let v130 := Scalar.andi (Scalar.cmpi .ne v66 v71) (Scalar.xori v64 1#1)
  let v135 := Scalar.select (Scalar.andi v130 1#1) (Scalar.addi a9 1#32) a9
  let v139 := Scalar.select (Scalar.ori (Scalar.cmpi .ne v66 v76) v65) (Scalar.addi a7 1#32) a7
  let v141 := Scalar.select 1#1 (Scalar.addi a10 1#32) a10
  let v143 := Scalar.select (Scalar.cmpi .eq v141 52#32) 0#32 v141
  (v91, v139, v121, v135, v143)

/-- They are the next trip's words. -/
theorem nextWords_eq : ∀ (i : grid1.Coords) (t : Fin k1_t1_loop.trips),
    nextWords i t (w6 t.val) (w7 t.val) (w7 t.val) (w9 t.val) (w10 t.val) = words (t.val + 1) := by decide +kernel

end Cert.Proof.Run
-- ==== Proof.Views.lean ====
/-
  The windows of the SparseCore kernel by their numbers: slot `s` of the two-deep row-number buffer and of the two-deep
  row buffer, block `k` of the row numbers and of the result, the semaphores of the slots. What the gathered block holds:
  row by row, the packed table's row that the row number names.
-/
module

public import proofs.«01_k».proof.Proof.Words
public import Idealize.ShloMosaic.Lib.ViewIndex

@[expose] public section

noncomputable section

namespace Cert.Proof.Run

open Cert.KernelIdeal Cert.KernelIdeal.Gen
open Idealize.ShloMosaic

variable {F : FTy → Type}

/-! ## The windows at given offsets -/

/-- A window of the row-number buffer. -/
abbrev idxSlotAt (off : Fin 4 → ℕ) (h : ∀ a, off a + S1x1x1x256.size a ≤ S2x1x1x256.size a) : Memref sig .scVector .vmem S1x1x256 .i32 :=
  ((Memref.whole cc1_scoped0).slice (Rect.unit (s := S2x1x1x256) off S1x1x1x256.size h) (fun _ => rfl)).squeeze S1x1x256 squeezes_S1x1x1x256_S1x1x256
/-- A window of the row buffer. -/
abbrev outSlotAt (off : Fin 3 → ℕ) (h : ∀ a, off a + S1x256x128.size a ≤ S2x256x128.size a) : Memref sig .scVector .vmem S256x128 .f32 :=
  ((Memref.whole cc1_scoped2).slice (Rect.unit (s := S2x256x128) off S1x256x128.size h) (fun _ => rfl)).squeeze S256x128 squeezes_S1x256x128_S256x128
/-- A window of the row numbers. -/
abbrev idxBlkAt (off : Fin 3 → ℕ) (h : ∀ a, off a + S1x1x256.size a ≤ S1664x1x256.size a) : Memref sig .scVector .hbm S1x1x256 .i32 :=
  (Memref.whole main_v5_scv).slice (Rect.unit (s := S1664x1x256) off S1x1x256.size h) (fun _ => rfl)
/-- A window of the result. -/
abbrev outBlkAt (off : Fin 2 → ℕ) (h : ∀ a, off a + S256x128.size a ≤ S425984x128.size a) : Memref sig .scVector .hbm S256x128 .f32 :=
  (Memref.whole main_v6_scv).slice (Rect.unit (s := S425984x128) off S256x128.size h) (fun _ => rfl)
/-- A semaphore of the row-number buffer's slots. -/
abbrev iSemAt (off : Fin 1 → ℕ) (h : ∀ a, off a + S1.size a ≤ S2.size a) : DmaSem sig :=
  ((cc1_scoped1.slice (Rect.unit (s := S2) off S1.size h)).squeeze S_ squeezes_S1_S_).sem
/-- A semaphore of the row buffer's slots. -/
abbrev oSemAt (off : Fin 1 → ℕ) (h : ∀ a, off a + S1.size a ≤ S2.size a) : DmaSem sig :=
  ((cc1_scoped3.slice (Rect.unit (s := S2) off S1.size h)).squeeze S_ squeezes_S1_S_).sem
/-- The packed table, the whole of it. -/
abbrev tabM : Memref sig .scVector .hbm S524288x128 .f32 :=
  (Memref.whole main_v1_scv).slice (Rect.unit (s := S524288x128) ![0, 0] S524288x128.size inb_S524288x128_S524288x128_0_0) (fun _ => rfl)
/-- A slot of the row-number buffer as the list of the gather. -/
abbrev offsOf (m : Memref sig .scVector .vmem S1x1x256 .i32) : Memref sig .scVector .vmem S256 .i32 :=
  (m.slice (Rect.unit (s := S1x1x256) ![0, 0, 0] S1x1x256.size inb_S1x1x256_S1x1x256_0_0_0) (fun _ => rfl)).squeeze S256 squeezes_S1x1x256_S256

/-! ## The windows by number -/

theorem idxSlot_inb (s : Fin 2) : ∀ a, (![s.val, 0, 0, 0] : Fin 4 → ℕ) a + S1x1x1x256.size a ≤ S2x1x1x256.size a := by revert s; decide +kernel
theorem outSlot_inb (s : Fin 2) : ∀ a, (![s.val, 0, 0] : Fin 3 → ℕ) a + S1x256x128.size a ≤ S2x256x128.size a := by revert s; decide +kernel
theorem sem_inb (s : Fin 2) : ∀ a, (![s.val] : Fin 1 → ℕ) a + S1.size a ≤ S2.size a := by revert s; decide +kernel
theorem idxBlk_inb (k : Fin 1664) : ∀ a, (![k.val, 0, 0] : Fin 3 → ℕ) a + S1x1x256.size a ≤ S1664x1x256.size a := by
  intro a
  match a with
  | 0 => show k.val + 1 ≤ 1664; omega
  | 1 => exact Nat.le_refl 1
  | 2 => exact Nat.le_refl 256
theorem outBlk_inb (k : Fin 1664) : ∀ a, (![256 * k.val, 0] : Fin 2 → ℕ) a + S256x128.size a ≤ S425984x128.size a := by
  intro a
  match a with
  | 0 => show 256 * k.val + 256 ≤ 425984; omega
  | 1 => exact Nat.le_refl 128

/-- Slot `s` of the row-number buffer. -/
abbrev idxSlot (s : Fin 2) := idxSlotAt ![s.val, 0, 0, 0] (idxSlot_inb s)
/-- Slot `s` of the row buffer. -/
abbrev outSlot (s : Fin 2) := outSlotAt ![s.val, 0, 0] (outSlot_inb s)
/-- Block `k` of the row numbers. -/
abbrev idxBlk (k : Fin 1664) := idxBlkAt ![k.val, 0, 0] (idxBlk_inb k)
/-- Block `k` of the result. -/
abbrev outBlk (k : Fin 1664) := outBlkAt ![256 * k.val, 0] (outBlk_inb k)
/-- The semaphore of slot `s` of the row-number buffer. -/
abbrev iSem (s : Fin 2) : DmaSem sig := iSemAt ![s.val] (sem_inb s)
/-- The semaphore of slot `s` of the row buffer. -/
abbrev oSem (s : Fin 2) : DmaSem sig := oSemAt ![s.val] (sem_inb s)
/-- The gather's semaphore. -/
abbrev gSem : DmaSem sig := cc1_scoped4.sem

theorem iSem_eq (s : Fin 2) : (iSem s).val = 6 + s.val := by revert s; decide +kernel
theorem oSem_eq (s : Fin 2) : (oSem s).val = 8 + s.val := by revert s; decide +kernel
theorem gSem_eq : gSem.val = 10 := by decide +kernel

/-! ## Sets of elements -/

/-- The elements of block `k` of the result. -/
abbrev blkSet (k : Fin 1664) : Finset S425984x128.Idx := (outBlk k).view.set

theorem outBlk_set (k : Fin 1664) : blkSet k = (Rect.unit (s := S425984x128) ![256 * k.val, 0] S256x128.size (outBlk_inb k)).set :=
  View.set_slice_whole main_v6_scv _

/-- A row lies in block `k` exactly if it is one of the block's 256 rows. -/
theorem mem_outBlk {k : Fin 1664} {i : S425984x128.Idx} : i ∈ blkSet k ↔ 256 * k.val ≤ (i 0).val ∧ (i 0).val < 256 * k.val + 256 := by
  rw [outBlk_set, Rect.mem_set_unit]
  constructor
  · intro h; exact h 0
  · intro h a
    match a with
    | 0 => exact h
    | 1 => exact ⟨Nat.zero_le _, by have := (i 1).isLt; show (i 1).val < 0 + 128; simpa using this⟩

theorem outBlk_disjoint {k k' : Fin 1664} (h : k ≠ k') : Disjoint (blkSet k) (blkSet k') := by
  rw [Finset.disjoint_left]
  intro i hi hi'
  rw [mem_outBlk] at hi hi'
  exact h (Fin.ext (by omega))

theorem outBlk_cover : (Finset.univ : Finset (Fin 1664)).biUnion blkSet = Finset.univ := by
  ext i
  simp only [Finset.mem_biUnion, Finset.mem_univ, true_and, iff_true]
  have h : (i 0).val < 425984 := (i 0).isLt
  exact ⟨⟨(i 0).val / 256, by omega⟩, mem_outBlk.mpr (by constructor <;> simp only <;> omega)⟩

/-! ## What the gather leaves -/

/-- The place of row `r` in the row numbers' blocks. -/
def rowAt (r : Fin 425984) : S1664x1x256.Idx := fun
  | 0 => (⟨r.val / 256, by omega⟩ : Fin 1664)
  | 1 => (0 : Fin 1)
  | 2 => (⟨r.val % 256, by omega⟩ : Fin 256)

/-- The gathered rows: row `r` is the packed table's row that the row's number names. -/
def gathered (x : S524288x128.Idx → F .f32) (w : S1664x1x256.Idx → BitVec 32) : S425984x128.Idx → F .f32 := fun i =>
  x fun
    | 0 => (⟨(w (rowAt (i 0))).toNat % 524288, Nat.mod_lt _ (by decide)⟩ : Fin 524288)
    | 1 => i 1

/-- The list's place `x` in a slot of shape 1×1×256. -/
def listAt (x : S256.Idx) : S1x1x256.Idx := fun
  | 0 => (0 : Fin 1)
  | 1 => (0 : Fin 1)
  | 2 => x 0

/-- What the gather's list reads of a slot. -/
theorem offs_read (s : Fin 2) (g : (idxSlot s).view.ty.Contents (Elt F)) (x : S256.Idx) :
    (offsOf (idxSlot s)).view.read (Elt F) g x = (idxSlot s).view.read (Elt F) g (listAt x) := by
  have e : (Rect.unit (s := S1x1x256) ![0, 0, 0] S1x1x256.size inb_S1x1x256_S1x1x256_0_0_0).emb
      (Shape.reshapeEquiv (squeezes_S1x1x256_S256.numel_eq) x) = listAt x := by
    have h := Shape.rowMajor_reshapeEquiv (squeezes_S1x1x256_S256.numel_eq) x
    set y := Shape.reshapeEquiv (squeezes_S1x1x256_S256.numel_eq) x with hy
    have h' : (S1x1x256.rowMajor y).val = (S256.rowMajor x).val := by rw [h]
    rw [Shape.rowMajor_val_three, Shape.rowMajor_val_one] at h'
    have h0 : (y 0).val < 1 := (y 0).isLt
    have h1 : (y 1).val < 1 := (y 1).isLt
    refine Shape.idx3_ext ?_ ?_ ?_
    · show 0 + 1 * (y 0).val = 0; omega
    · show 0 + 1 * (y 1).val = 0; omega
    · show 0 + 1 * (y 2).val = (x 0).val
      have h'' : (y 2).val = (x 0).val := by
        have e0 : (y 0).val = 0 := by omega
        have e1 : (y 1).val = 0 := by omega
        rw [e0, e1, Nat.zero_mul, Nat.zero_add, Nat.zero_mul, Nat.zero_add] at h'
        exact h'
      omega
  show (idxSlot s).view.read (Elt F) g _ = _
  exact congrArg _ e

/-- Element `z` of block `k` of the row numbers. -/
theorem idxBlk_read (k : Fin 1664) (w : S1664x1x256.Idx → BitVec 32) (x : S256.Idx) (r : Fin 425984) (hr : r.val = 256 * k.val + (x 0).val) :
    (idxBlk k).view.read (Elt F) w (listAt x) = w (rowAt r) := by
  have hx : (x 0).val < 256 := (x 0).isLt
  refine congrArg w (Shape.idx3_ext ?_ ?_ ?_)
  · show k.val + 1 * 0 = r.val / 256; omega
  · rfl
  · show 0 + 1 * (x 0).val = r.val % 256; omega

/-- The gather's result for block `k` is the block of the gathered rows. -/
theorem payload_eq (k : Fin 1664) (s : Fin 2) (x : S524288x128.Idx → F .f32) (w : S1664x1x256.Idx → BitVec 32)
    (hw : ∀ j, (w j).toNat < 524288)
    (g : (idxSlot s).view.ty.Contents (Elt F)) (hg : (idxSlot s).view.read (Elt F) g = (idxBlk k).view.read (Elt F) w)
    (hin : ∀ y, ((offsOf (idxSlot s)).view.read (Elt F) g y).toNat < S524288x128.size gathers_S524288x128_S256x128.axis) :
    SparseCore.gatherPayload (F := F) (e := .f32) gathers_S524288x128_S256x128 (tabM.view.read (Elt F) x)
        (SparseCore.rows ((offsOf (idxSlot s)).view.read (Elt F) g) rfl hin)
      = (outBlk k).view.read (Elt F) (gathered x w) := by
  funext z
  have hz : (z 0).val < 256 := (z 0).isLt
  have hk : k.val < 1664 := k.isLt
  refine congrArg x (funext fun a => ?_)
  match a with
  | 0 =>
    refine Fin.ext ?_
    set y : S256.Idx := S256.rowMajor.symm ((z 0).cast rfl) with hy
    have hy0 : (y 0).val = (z 0).val := by
      have h : (S256.rowMajor y).val = (z 0).val := by rw [hy, Equiv.apply_symm_apply]; rfl
      rwa [Shape.rowMajor_val_one] at h
    have e : (offsOf (idxSlot s)).view.read (Elt F) g y = w (rowAt ((Rect.unit (s := S425984x128) ![256 * k.val, 0] S256x128.size (outBlk_inb k)).emb z 0)) := by
      rw [offs_read, hg]
      refine idxBlk_read k w y _ ?_
      show 256 * k.val + 1 * (z 0).val = _
      omega
    have e' : (BitVec.toNat (w := 32) ((offsOf (idxSlot s)).view.read (Elt F) g y)) < 524288 := by rw [e]; exact hw _
    show 0 + 1 * (BitVec.toNat (w := 32) ((offsOf (idxSlot s)).view.read (Elt F) g y)) = BitVec.toNat (w _) % 524288
    rw [Nat.zero_add, Nat.one_mul]
    exact (Nat.mod_eq_of_lt e').symm.trans (congrArg (fun v : BitVec 32 => v.toNat % 524288) e)
  | 1 =>
    refine Fin.ext ?_
    show 0 + 1 * (z 1).val = 0 + 1 * (z 1).val
    rfl

end Cert.Proof.Run

end
-- ==== Proof.Ops.lean ====
/-
  The transfers of the SparseCore kernel, one rule each, over the windows by number: the fetch of a block of row numbers
  and its wait, the gather and its wait, the send of a block of rows and its wait. Each rule takes the window's offsets
  as any functions equal to the numbered window's, as the program computes them from its words.
-/
module

public import proofs.«01_k».proof.Proof.Views

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A flight with a resource set aside in it -/

/-- A transfer in flight may carry a resource that its wait hands back. -/
theorem flight_frame {c : Thread nD τ} {sm : SemLoc sig} {ι : HIx 1} {N : ℕ} {P R : sProp 𝕄} :
    iprop(Transfers.Flight countersEmb c sm ι N P ∗ R) ⊢ (Transfers.Flight countersEmb c sm ι N iprop(P ∗ R) : sProp 𝕄) := by
  unfold Transfers.Flight
  iintro ⟨⟨⟨%R', HR, %hcap, %hpeek⟩, Hcred⟩, Hr⟩
  isplitr [Hcred]
  · iexists iprop(R' ∗ R)
    isplitl [HR Hr]
    · isplitl [HR] <;> iassumption
    isplitr
    · ipureintro
      intro K
      refine BIBase.Entails.trans ?_ (hcap K)
      iintro ⟨⟨HR, Hr⟩, HK⟩
      isplitl [HR]; · iexact HR
      iintro ⟨Hs, HP⟩
      iapply HK
      isplitl [Hs]; · iexact Hs
      isplitl [HP] <;> iassumption
    · ipureintro
      intro K
      refine BIBase.Entails.trans ?_ (hpeek K)
      iintro ⟨⟨HR, Hr⟩, HK⟩
      isplitl [HR]; · iexact HR
      iintro HR
      iapply HK
      isplitl [HR] <;> iassumption
  · iexact Hcred

/-! ## The tile's pieces -/

variable (d : Dev nD) (c : Fin τ.nSC) (j : Fin τ.nSub)

/-- Slot `s` of the row-number buffer, holding `g`. -/
abbrev slotI (s : Fin 2) (g : (idxSlot s).view.ty.Contents (Elt F)) : sProp 𝕄 :=
  (idxSlot s).view.loc (V d c j) ↦[(idxSlot s).view.set]{fullShare} g
/-- Slot `s` of the row buffer, holding `g`. -/
abbrev slotO (s : Fin 2) (g : (outSlot s).view.ty.Contents (Elt F)) : sProp 𝕄 :=
  (outSlot s).view.loc (V d c j) ↦[(outSlot s).view.set]{fullShare} g
/-- Block `k` of the result, holding `g`'s. -/
abbrev blkO (k : Fin 1664) (g : Buf (Elt F) (oLoc d)) : sProp 𝕄 := oLoc d ↦[blkSet k]{fullShare} g
/-- A counter of the tile at zero. -/
abbrev sem0 (sem : DmaSem sig) : sProp 𝕄 := semVal (V d c j, SemLoc.dma sem) 0

variable (w : Buf (Elt F) (iLoc d)) (x : Buf (Elt F) (xLoc d))

/-- The row-number slot `s` free: whatever it holds, its counter at zero, a share of the row numbers. -/
def IdxIdle (q : PosShare TreeShare) (s : Fin 2) : sProp 𝕄 :=
  iprop((∃ g, slotI d c j s g) ∗ sem0 d c j (iSem s) ∗ iLoc d ↦{q} w)
/-- The row-number slot `s` holding block `k`. -/
def IdxFull (q : PosShare TreeShare) (s : Fin 2) (k : Fin 1664) : sProp 𝕄 :=
  iprop(∃ g, ⌜(idxSlot s).view.read (Elt F) g = (idxBlk k).view.read (Elt F) w⌝ ∗ slotI d c j s g ∗ iLoc d ↦{q} w)
/-- Block `k` on its way into slot `s`. -/
def IdxFly (q : PosShare TreeShare) (s : Fin 2) (k : Fin 1664) : sProp 𝕄 :=
  Transfers.Flight countersEmb (V d c j) (.dma (iSem s)) none (idxSlot s).view.dmaCredit (IdxFull d c j w q s k)

theorem idxFull_idle (q : PosShare TreeShare) (s : Fin 2) (k : Fin 1664) :
    iprop(IdxFull d c j w q s k ∗ sem0 d c j (iSem s)) ⊢ IdxIdle d c j w q s := by
  unfold IdxFull IdxIdle
  iintro ⟨⟨%g, -, Hg, Hw⟩, Hs⟩
  isplitl [Hg]; · iexists g; iexact Hg
  isplitl [Hs] <;> iassumption

/-- The row slot `s` holding the gathered rows of block `k`. -/
def OutFull (s : Fin 2) (k : Fin 1664) : sProp 𝕄 :=
  iprop(∃ g, ⌜(outSlot s).view.read (Elt F) g = (outBlk k).view.read (Elt F) (gathered x w)⌝ ∗ slotO d c j s g)
/-- What the send of block `k` from slot `s` leaves: the block gathered, the slot free. -/
def OutSent (s : Fin 2) (k : Fin 1664) : sProp 𝕄 :=
  iprop(blkO d k (gathered x w) ∗ ∃ g, slotO d c j s g)
/-- Block `k` on its way out of slot `s`. -/
def OutFly (s : Fin 2) (k : Fin 1664) : sProp 𝕄 :=
  Transfers.Flight countersEmb (V d c j) (.dma (oSem s)) none (outSlot s).view.dmaCredit (OutSent d c j w x s k)
/-- The gather of block `k` into slot `s'` by the list in slot `s` under way. -/
def GatherFly (q qx : PosShare TreeShare) (s s' : Fin 2) (k : Fin 1664) : sProp 𝕄 :=
  Transfers.Flight countersEmb (V d c j) (.dma gSem) none (outSlot s').view.dmaCredit
    iprop(OutFull d c j w x s' k ∗ IdxFull d c j w q s k ∗ xLoc d ↦{qx} x)

/-- What the tile owes, the waits it has recorded besides those it came with at no stage. -/
def Owe (O : CellTallies nD τ sig (HIx 1)) (W : Waits sig (HIx 1)) : sProp 𝕄 :=
  iprop(∃ W', ⌜∀ p ∈ W', p ∈ W ∨ p.2 = none⌝ ∗ owes (V d c j) O W')

variable [FloatOps F]

/-- The fetch of block `k` of the row numbers into slot `s`. -/
theorem wp_fetch {q : PosShare TreeShare} {s : Fin 2} {k : Fin 1664}
    {o4 : Fin 4 → ℕ} {h4 : ∀ a, o4 a + S1x1x1x256.size a ≤ S2x1x1x256.size a} {o5 : Fin 3 → ℕ} {h5 : ∀ a, o5 a + S1x1x256.size a ≤ S1664x1x256.size a}
    {o6 : Fin 1 → ℕ} {h6 : ∀ a, o6 a + S1.size a ≤ S2.size a}
    {hsrc : (idxBlkAt o5 h5).view.WordExact} {hdst : (idxSlotAt o4 h4).view.WordExact}
    {hsem : DmaTarget.Typed (nD := nD) .hbm (SemLoc.dma (iSemAt o6 h6)) (DmaTarget.here (p := .scVector c j) (idxSlotAt o4 h4))}
    (e4 : o4 = ![s.val, 0, 0, 0]) (e5 : o5 = ![k.val, 0, 0]) (e6 : o6 = ![s.val]) {Φ : PUnit → sProp 𝕄} :
    iprop(IdxIdle d c j w q s ∗ (IdxFly d c j w q s k -∗ Φ ⟨⟩))
      ⊢ wp frame (wpE defs₀ 𝒱₀ (V d c j) none) Set.univ
          (Prog.lift (TpuEff.enqueueDma (nD := nD) (τ := τ) (Val := Elt F) (Λ := Λ₀) (p := .scVector c j) (idxBlkAt o5 h5) (.here (idxSlotAt o4 h4)) (.dma (iSemAt o6 h6)) hsrc hdst hsem)) Φ := by
  subst e4 e5 e6
  unfold IdxIdle
  iintro ⟨⟨⟨%g, Hg⟩, Hs, Hw⟩, HΦ⟩
  ihave Hw' := (pointsTo_split_subset (ℓ := iLoc d) (q := q) (f := w) (Finset.subset_univ (idxBlk k).view.set)).1 $$ Hw
  icases Hw' with ⟨Hb, Hr⟩
  iapply (Transfers.wp_dmaLocal countersEmb 𝒱₀ (V d c j) none (src := idxBlk k) (dst := idxSlot s) (sm := .dma (iSem s)) none
      (idxSlot s).view.dmaCredit rfl (View.dmaCredit_pos _ (by decide)) (Finset.Subset.refl _)) $$ [Hb Hg Hs]
  · isplitl [Hb]; · iexact Hb
    isplitl [Hg] <;> iassumption
  iintro Hf
  rw [wp_ret]
  imodintro
  iapply HΦ
  ihave Hf' := (flight_frame (R := iprop(iLoc d ↦[Finset.univ \ (idxBlk k).view.set]{q} w))) $$ [Hf Hr]
  · isplitl [Hf] <;> iassumption
  unfold IdxFly
  iapply (Transfers.Flight_mono countersEmb (V d c j) ?_) $$ Hf'
  unfold IdxFull
  iintro ⟨⟨Hg, Hb⟩, Hr⟩
  iexists _
  isplitr
  rotate_left
  · isplitl [Hg]; · iexact Hg
    iapply (pointsTo_split_subset (ℓ := iLoc d) (q := q) (f := w) (Finset.subset_univ (idxBlk k).view.set)).2
    isplitl [Hb] <;> iassumption
  · ipureintro
    exact View.read_write_univ _ _

/-- The tile may wait on its own semaphores whatever it owes at the launch's stages. -/
theorem mayWait {O : CellTallies nD τ sig (HIx 1)} (hO : ∀ g, O g none = 0) (sm : SemLoc sig) :
    (levAts (K (F := F)).L (K (F := F)).lev : sProp 𝕄) ⊢ MayWait (V d c j) sm none O :=
  (K (F := F)).mayWait_none sm hO

/-- The wait for the fetch of block `k` into slot `s`. -/
theorem wp_fetchWait {q : PosShare TreeShare} {s : Fin 2} {k : Fin 1664} {O : CellTallies nD τ sig (HIx 1)} {W : Waits sig (HIx 1)}
    (hO : ∀ g, O g none = 0)
    {o7 : Fin 4 → ℕ} {h7 : ∀ a, o7 a + S1x1x1x256.size a ≤ S2x1x1x256.size a} {o8 : Fin 3 → ℕ} {h8 : ∀ a, o8 a + S1x1x256.size a ≤ S1664x1x256.size a}
    {o9 : Fin 1 → ℕ} {h9 : ∀ a, o9 a + S1.size a ≤ S2.size a}
    {hsrc : (idxBlkAt o8 h8).view.WordExact} {hdst : (idxSlotAt o7 h7).view.WordExact}
    (e9 : o9 = ![s.val]) {Φ : PUnit → sProp 𝕄} :
    iprop(levAts (K (F := F)).L (K (F := F)).lev ∗ IdxFly d c j w q s k ∗ Owe d c j O W
        ∗ (iprop(IdxFull d c j w q s k ∗ sem0 d c j (iSem s) ∗ Owe d c j O W) -∗ Φ ⟨⟩))
      ⊢ wp frame (wpE defs₀ 𝒱₀ (V d c j) none) Set.univ
          (Prog.lift (TpuEff.waitDma2 (nD := nD) (τ := τ) (Val := Elt F) (Λ := Λ₀) (p := .scVector c j) (iSemAt o9 h9) (idxBlkAt o8 h8) (idxSlotAt o7 h7) hsrc hdst)) Φ := by
  subst e9
  unfold Owe IdxFly
  iintro ⟨#Hlv, Hf, ⟨%W', %hW', HO⟩, HΦ⟩
  iapply (Transfers.wp_waitLocalO countersEmb 𝒱₀ (V d c j) none (sem := iSem s) none
      (rfl : (idxSlotAt o7 h7).view.dmaCredit = (idxSlot s).view.dmaCredit)) $$ [Hf HO]
  · isplitl [Hf]; · iexact Hf
    isplitl [HO]; · iexact HO
    iapply (mayWait d c j hO); iexact Hlv
  iintro ⟨HD, Hs, HO⟩
  rw [wp_ret]
  imodintro
  iapply HΦ
  isplitl [HD]; · iexact HD
  isplitl [Hs]; · iexact Hs
  iexists (insert (SemLoc.dma (iSem s), none) W')
  isplitr
  · ipureintro
    intro p hp
    rcases Finset.mem_insert.mp hp with rfl | hp
    · exact Or.inr rfl
    · exact hW' p hp
  · iexact HO

theorem offs_subset (s : Fin 2) : (offsOf (idxSlot s)).view.set ⊆ (idxSlot s).view.set := by
  rw [show (offsOf (idxSlot s)).view.set = _ from View.set_reshape _ _]
  exact View.set_slice_subset _ _

/-- A slot's credit is the sum of its rows'. -/
theorem credit_sum (s' : Fin 2) : ∑ r, ((outSlot s').slice (S256x128.rowRect gathers_S524288x128_S256x128.axis' r) (S256x128.stride_rowRect gathers_S524288x128_S256x128.axis' r)).view.dmaCredit
      = (outSlot s').view.dmaCredit := by revert s'; decide +kernel

/-- The gather of block `k`: the rows that the list in slot `s` names, into slot `s'` of the row buffer. -/
theorem wp_gather {q qx : PosShare TreeShare} {s s' : Fin 2} {k : Fin 1664} (hw : ∀ y, (w y : BitVec 32).toNat < 524288)
    {o10 : Fin 3 → ℕ} {h10 : ∀ a, o10 a + S1x256x128.size a ≤ S2x256x128.size a} {o11 : Fin 4 → ℕ} {h11 : ∀ a, o11 a + S1x1x1x256.size a ≤ S2x1x1x256.size a}
    {hsrc : tabM.view.WordExact}
    (e10 : o10 = ![s'.val, 0, 0]) (e11 : o11 = ![s.val, 0, 0, 0]) {Φ : PUnit → sProp 𝕄} :
    iprop(IdxFull d c j w q s k ∗ (∃ g, slotO d c j s' g) ∗ (xLoc d ↦{qx} x) ∗ sem0 d c j gSem
        ∗ (GatherFly d c j w x q qx s s' k -∗ Φ ⟨⟩))
      ⊢ wp frame (wpE defs₀ 𝒱₀ (V d c j) none) Set.univ
          (SparseCore.enqueueIndirectGather (nD := nD) (τ := τ) (F := F) (Λ := Λ₀) (p := .scVector c j) rfl tabM (outSlotAt o10 h10)
            gathers_S524288x128_S256x128 (offsOf (idxSlotAt o11 h11)) rfl gSem hsrc rfl (Or.inl rfl)) Φ := by
  subst e10 e11
  refine BIBase.Entails.trans ?_ (Entails.of_eq (congrArg (fun p => wp frame (wpE defs₀ 𝒱₀ (V d c j) none) Set.univ p Φ) (bind_pure _)))
  unfold IdxFull
  iintro ⟨⟨%g, %hg, Hi, Hw⟩, ⟨%g', Ho⟩, Hx, Hs, HΦ⟩
  have hin : ∀ y, ((offsOf (idxSlot s)).view.read (Elt F) g y).toNat < S524288x128.size gathers_S524288x128_S256x128.axis := by
    intro y
    rw [offs_read, hg, idxBlk_read k w y ⟨256 * k.val + (y 0).val, by have : (y 0).val < 256 := (y 0).isLt; omega⟩ rfl]
    exact hw _
  have hN : ∑ r, ((outSlot s').slice (S256x128.rowRect gathers_S524288x128_S256x128.axis' r) (S256x128.stride_rowRect gathers_S524288x128_S256x128.axis' r)).view.dmaCredit
      = (outSlot s').view.dmaCredit := credit_sum s'
  ihave Hx' := (pointsTo_split_subset (ℓ := xLoc d) (q := qx) (f := x) (Finset.subset_univ tabM.view.set)).1 $$ Hx
  icases Hx' with ⟨Hx, Hxr⟩
  ihave Hi' := (pointsTo_split_subset (ℓ := (idxSlot s).view.loc (V d c j)) (q := fullShare) (f := g) (offs_subset s)).1 $$ Hi
  icases Hi' with ⟨Hi, Hir⟩
  iapply (SparseCore.wp_indirectGatherLocal countersEmb 𝒱₀ (V d c j) none (hg := gathers_S524288x128_S256x128) none
      (outSlot s').view.dmaCredit hN (by decide) hin) $$ [Hx Ho Hi Hs]
  · isplitl [Hx]; · iexact Hx
    isplitl [Ho]; · iexact Ho
    isplitl [Hi]; · iexact Hi
    iexact Hs
  iintro Hf
  rw [show (pure ⟨⟩ : Prog (TpuEff nD τ sig (Elt F) Λ₀ (.scVector c j)) PUnit) = Prog.ret ⟨⟩ from rfl, wp_ret]
  imodintro
  iapply HΦ
  ihave Hf' := (flight_frame (R := iprop((xLoc d ↦[Finset.univ \ tabM.view.set]{qx} x)
      ∗ ((idxSlot s).view.loc (V d c j) ↦[(idxSlot s).view.set \ (offsOf (idxSlot s)).view.set]{fullShare} g) ∗ iLoc d ↦{q} w))) $$ [Hf Hxr Hir Hw]
  · isplitl [Hf]; · iexact Hf
    isplitl [Hxr]; · iexact Hxr
    isplitl [Hir] <;> iassumption
  unfold GatherFly
  iapply (Transfers.Flight_mono countersEmb (V d c j) ?_) $$ Hf'
  unfold OutFull IdxFull
  iintro ⟨⟨Ho, Hx, Hi⟩, Hxr, Hir, Hw⟩
  isplitl [Ho]
  · iexists _
    isplitr
    rotate_left
    · iexact Ho
    · ipureintro
      rw [View.read_write_univ]
      exact payload_eq k s x w hw g hg hin
  isplitr [Hx Hxr]
  · iexists g
    isplitr; · ipureintro; exact hg
    isplitr [Hw]
    · iapply (pointsTo_split_subset (ℓ := (idxSlot s).view.loc (V d c j)) (q := fullShare) (f := g) (offs_subset s)).2
      isplitl [Hi] <;> iassumption
    · iexact Hw
  · iapply (pointsTo_split_subset (ℓ := xLoc d) (q := qx) (f := x) (Finset.subset_univ tabM.view.set)).2
    isplitl [Hx] <;> iassumption

/-- The gather's wait. -/
theorem wp_gatherWait {q qx : PosShare TreeShare} {s s' : Fin 2} {k : Fin 1664} {O : CellTallies nD τ sig (HIx 1)} {W : Waits sig (HIx 1)}
    (hO : ∀ g, O g none = 0)
    {o10 : Fin 3 → ℕ} {h10 : ∀ a, o10 a + S1x256x128.size a ≤ S2x256x128.size a}
    {hsrc : tabM.view.WordExact} {hdst : (outSlotAt o10 h10).view.WordExact}
    (e10 : o10 = ![s'.val, 0, 0]) {Φ : PUnit → sProp 𝕄} :
    iprop(levAts (K (F := F)).L (K (F := F)).lev ∗ GatherFly d c j w x q qx s s' k ∗ Owe d c j O W
        ∗ (iprop((OutFull d c j w x s' k ∗ IdxFull d c j w q s k ∗ xLoc d ↦{qx} x) ∗ sem0 d c j gSem ∗ Owe d c j O W) -∗ Φ ⟨⟩))
      ⊢ wp frame (wpE defs₀ 𝒱₀ (V d c j) none) Set.univ
          (SparseCore.waitIndirectGather (nD := nD) (τ := τ) (F := F) (Λ := Λ₀) (p := .scVector c j) gSem tabM (outSlotAt o10 h10) hsrc hdst) Φ := by
  subst e10
  unfold Owe GatherFly SparseCore.waitIndirectGather
  iintro ⟨#Hlv, Hf, ⟨%W', %hW', HO⟩, HΦ⟩
  iapply (Transfers.wp_waitLocalO countersEmb 𝒱₀ (V d c j) none (sem := gSem) none
      (rfl : (outSlot s').view.dmaCredit = (outSlot s').view.dmaCredit)) $$ [Hf HO]
  · isplitl [Hf]; · iexact Hf
    isplitl [HO]; · iexact HO
    iapply (mayWait d c j hO); iexact Hlv
  iintro ⟨HD, Hs, HO⟩
  rw [wp_ret]
  imodintro
  iapply HΦ
  isplitl [HD]; · iexact HD
  isplitl [Hs]; · iexact Hs
  iexists (insert (SemLoc.dma gSem, none) W')
  isplitr
  · ipureintro
    intro p hp
    rcases Finset.mem_insert.mp hp with rfl | hp
    · exact Or.inr rfl
    · exact hW' p hp
  · iexact HO

/-- The send of slot `s` of the row buffer to block `k` of the result. -/
theorem wp_send {s : Fin 2} {k : Fin 1664}
    {o12 : Fin 3 → ℕ} {h12 : ∀ a, o12 a + S1x256x128.size a ≤ S2x256x128.size a} {o13 : Fin 2 → ℕ} {h13 : ∀ a, o13 a + S256x128.size a ≤ S425984x128.size a}
    {o14 : Fin 1 → ℕ} {h14 : ∀ a, o14 a + S1.size a ≤ S2.size a}
    {hsrc : (outSlotAt o12 h12).view.WordExact} {hdst : (outBlkAt o13 h13).view.WordExact}
    {hsem : DmaTarget.Typed (nD := nD) .vmem (SemLoc.dma (oSemAt o14 h14)) (DmaTarget.here (p := .scVector c j) (outBlkAt o13 h13))}
    (e12 : o12 = ![s.val, 0, 0]) (e13 : o13 = ![256 * k.val, 0]) (e14 : o14 = ![s.val]) {Φ : PUnit → sProp 𝕄} :
    iprop(OutFull d c j w x s k ∗ sem0 d c j (oSem s) ∗ (∃ f, blkO d k f) ∗ (OutFly d c j w x s k -∗ Φ ⟨⟩))
      ⊢ wp frame (wpE defs₀ 𝒱₀ (V d c j) none) Set.univ
          (Prog.lift (TpuEff.enqueueDma (nD := nD) (τ := τ) (Val := Elt F) (Λ := Λ₀) (p := .scVector c j) (outSlotAt o12 h12) (.here (outBlkAt o13 h13)) (.dma (oSemAt o14 h14)) hsrc hdst hsem)) Φ := by
  subst e12 e13 e14
  unfold OutFull
  iintro ⟨⟨%g, %hg, Hg⟩, Hs, ⟨%f, Hf⟩, HΦ⟩
  iapply (Transfers.wp_dmaLocal countersEmb 𝒱₀ (V d c j) none (src := outSlot s) (dst := outBlk k) (sm := .dma (oSem s)) none
      (outSlot s).view.dmaCredit rfl (View.dmaCredit_pos _ (by decide)) (Finset.Subset.refl _)) $$ [Hg Hf Hs]
  · isplitl [Hg]; · iexact Hg
    isplitl [Hf] <;> iassumption
  iintro Hfl
  rw [wp_ret]
  imodintro
  iapply HΦ
  unfold OutFly
  iapply (Transfers.Flight_mono countersEmb (V d c j) ?_) $$ Hfl
  unfold OutSent
  iintro ⟨Hb, Hg⟩
  isplitl [Hb]
  · iapply (Entails.of_eq (pointsTo_congr ?_)) $$ Hb
    intro i hi
    rw [show ReadAs.apply (Val := Elt F) _ ((outSlot s).view.read (Elt F) g) = (outSlot s).view.read (Elt F) g from rfl, hg]
    obtain ⟨y, -, rfl⟩ := Finset.mem_map.mp hi
    exact View.write_emb_of_mem _ _ (Finset.mem_univ y)
  · iexists g; iexact Hg

/-- The wait for the send of block `k` from slot `s`. -/
theorem wp_sendWait {s : Fin 2} {k : Fin 1664} {O : CellTallies nD τ sig (HIx 1)} {W : Waits sig (HIx 1)}
    (hO : ∀ g, O g none = 0)
    {o15 : Fin 3 → ℕ} {h15 : ∀ a, o15 a + S1x256x128.size a ≤ S2x256x128.size a} {o16 : Fin 2 → ℕ} {h16 : ∀ a, o16 a + S256x128.size a ≤ S425984x128.size a}
    {o17 : Fin 1 → ℕ} {h17 : ∀ a, o17 a + S1.size a ≤ S2.size a}
    {hsrc : (outSlotAt o15 h15).view.WordExact} {hdst : (outBlkAt o16 h16).view.WordExact}
    (e17 : o17 = ![s.val]) {Φ : PUnit → sProp 𝕄} :
    iprop(levAts (K (F := F)).L (K (F := F)).lev ∗ OutFly d c j w x s k ∗ Owe d c j O W
        ∗ (iprop(OutSent d c j w x s k ∗ sem0 d c j (oSem s) ∗ Owe d c j O W) -∗ Φ ⟨⟩))
      ⊢ wp frame (wpE defs₀ 𝒱₀ (V d c j) none) Set.univ
          (Prog.lift (TpuEff.waitDma2 (nD := nD) (τ := τ) (Val := Elt F) (Λ := Λ₀) (p := .scVector c j) (oSemAt o17 h17) (outSlotAt o15 h15) (outBlkAt o16 h16) hsrc hdst)) Φ := by
  subst e17
  unfold Owe OutFly
  iintro ⟨#Hlv, Hf, ⟨%W', %hW', HO⟩, HΦ⟩
  iapply (Transfers.wp_waitLocalO countersEmb 𝒱₀ (V d c j) none (sem := oSem s) none
      (rfl : (outBlkAt o16 h16).view.dmaCredit = (outSlot s).view.dmaCredit)) $$ [Hf HO]
  · isplitl [Hf]; · iexact Hf
    isplitl [HO]; · iexact HO
    iapply (mayWait d c j hO); iexact Hlv
  iintro ⟨HD, Hs, HO⟩
  rw [wp_ret]
  imodintro
  iapply HΦ
  isplitl [HD]; · iexact HD
  isplitl [Hs]; · iexact Hs
  iexists (insert (SemLoc.dma (oSem s), none) W')
  isplitr
  · ipureintro
    intro p hp
    rcases Finset.mem_insert.mp hp with rfl | hp
    · exact Or.inr rfl
    · exact hW' p hp
  · iexact HO

end Cert.Proof.Run

end
-- ==== Proof.Trip.lean ====
/-
  A trip of the SparseCore kernel's loop on a tile, at any trip. Before trip `t` the row numbers of the tile's block `t`
  are on their way into their slot, the other slot is free, the rows of block `t - 1` are on their way out, and the
  blocks before that are in the result.
-/
module

public import proofs.«01_k».proof.Proof.Ops
public import proofs.«01_k».proof.Proof.Words
public import Idealize.SL.BI.BigOpNat

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem off1_eq : k1_off1 = ![0, 0, 0, 0] := by decide +kernel
theorem off2_eq : ∀ i : grid1.Coords, k1_off2 i = ![base i, 0, 0] := by decide +kernel
theorem off3_eq : k1_off3 = ![0] := by decide +kernel

/-- The tile's SparseCore. -/
abbrev cV (i : grid1.Coords) : Fin τ.nSC := (i 0).castLE hcore1
/-- The tile's number in it. -/
abbrev jV (i : grid1.Coords) : Fin τ.nSub := (i 1).castLE hsub1

/-- The slot of trip `t`. -/
def slot (t : ℕ) : Fin 2 := ⟨t % 2, Nat.mod_lt _ (by decide)⟩
/-- The tile's block `t` among all blocks. -/
def blk (i : grid1.Coords) (t : ℕ) : Fin 1664 := ⟨(base i + t) % 1664, Nat.mod_lt _ (by decide)⟩

theorem blk_val (i : grid1.Coords) {t : ℕ} (h : t < 52) : (blk i t).val = base i + t := by
  have := base_le i
  exact Nat.mod_eq_of_lt (by omega)

theorem slot_prev {t : ℕ} (h : 1 ≤ t) : slot (t - 1) = slot (t + 1) := Fin.ext (by simp only [slot]; omega)

section
variable (d : Dev nD) (i : grid1.Coords) (w : Buf (Elt F) (iLoc d)) (x : Buf (Elt F) (xLoc d))
variable (q : Fin 2 → PosShare TreeShare) (qx : PosShare TreeShare)

/-- Slot `s` of the row buffer free: whatever it holds, its counter at zero. -/
def OutIdle (s : Fin 2) : sProp 𝕄 := iprop((∃ g, slotO d (cV i) (jV i) s g) ∗ sem0 d (cV i) (jV i) (oSem s))

/-- The row numbers before trip `t`. -/
def IdxPart (t : ℕ) : sProp 𝕄 :=
  iprop((if t < 52 then IdxFly d (cV i) (jV i) w (q (slot t)) (slot t) (blk i t) else IdxIdle d (cV i) (jV i) w (q (slot t)) (slot t))
    ∗ IdxIdle d (cV i) (jV i) w (q (slot (t + 1))) (slot (t + 1)))
/-- The rows before trip `t`. -/
def OutPart (t : ℕ) : sProp 𝕄 :=
  iprop(OutIdle d i (slot t) ∗ if 1 ≤ t then OutFly d (cV i) (jV i) w x (slot (t + 1)) (blk i (t - 1)) else OutIdle d i (slot (t + 1)))
/-- The blocks in the result before trip `t`. -/
def Done (t : ℕ) : sProp 𝕄 := bigSep (Finset.range (t - 1)) fun k => blkO d (blk i k) (gathered x w)
/-- The blocks still to come before trip `t`. -/
def Todo (t : ℕ) : sProp 𝕄 := bigSep (Finset.Ico t 52) fun k => iprop(∃ f, blkO d (blk i k) f)

variable (O : CellTallies nD τ sig (HIx 1)) (W : Waits sig (HIx 1))

/-- All the tile holds before trip `t`. -/
def Inv (t : ℕ) : sProp 𝕄 :=
  iprop(levAts (K (F := F)).L (K (F := F)).lev ∗ IdxPart d i w q t ∗ OutPart d i w x t ∗ Done d i w x t ∗ Todo d i t
    ∗ (xLoc d ↦{qx} x) ∗ sem0 d (cV i) (jV i) gSem ∗ Owe d (cV i) (jV i) O W)

/-- The whole of it with the five carried words. -/
def InvW (t : ℕ) (v : BitVec 32 × BitVec 32 × BitVec 32 × BitVec 32 × BitVec 32) : sProp 𝕄 :=
  iprop(⌜v = words t⌝ ∗ Inv d i w x q qx O W t)

variable [FloatOps F]

/-- The table, the row numbers and the result as a tile sees them. -/
abbrev xV : Memref sig .scVector .hbm S524288x128 .f32 := Memref.whole main_v1_scv
abbrev iV : Memref sig .scVector .hbm S1664x1x256 .i32 := Memref.whole main_v5_scv
abbrev oV : Memref sig .scVector .hbm S425984x128 .f32 := Memref.whole main_v6_scv
abbrev ibV : Memref sig .scVector .vmem S2x1x1x256 .i32 := Memref.whole cc1_scoped0
abbrev obV : Memref sig .scVector .vmem S2x256x128 .f32 := Memref.whole cc1_scoped2

/-- A conditional that runs `p` and goes on either way: `p` and its absence lead from `A` to `R`, what follows goes on from `R`. -/
theorem wp_dite_join {thr : Thread nD τ} {b : Prop} [Decidable b] {α β : Type} {p : b → Prog (TpuEff nD τ sig (Elt F) Λ₀ thr.2) β}
    {k : Prog (TpuEff nD τ sig (Elt F) Λ₀ thr.2) α} {A R : sProp 𝕄} {Φ : α → sProp 𝕄}
    (hp : ∀ h, A ⊢ wp frame (wpE defs₀ 𝒱₀ thr none) Set.univ (p h) fun _ => R) (hn : ¬ b → A ⊢ R) :
    iprop(A ∗ (R -∗ wp frame (wpE defs₀ 𝒱₀ thr none) Set.univ k Φ))
      ⊢ wp frame (wpE defs₀ 𝒱₀ thr none) Set.univ (if h : b then p h >>= fun _ => k else k) Φ := by
  by_cases h : b
  · rw [dif_pos h, wp_bind]
    iintro ⟨HA, HK⟩
    iapply (wp_wand_r frame (wpE defs₀ 𝒱₀ thr none) Set.univ)
    isplitl [HA]
    · iapply (hp h); iexact HA
    · iintro %_ HR
      iapply HK; iexact HR
  · rw [dif_neg h]
    iintro ⟨HA, HK⟩
    iapply HK; iapply (hn h); iexact HA

/-- The words that the first part of a trip hands on. -/
def words1 (i : grid1.Coords) (t : Fin k1_t1_loop.trips) (a6 a7 a8 a9 a10 : BitVec 32) (h3 : k1_chk3 a7) (h2 : k1_chk2 a8) (h1 : k1_chk1 i t a6 a7 a8 a9 a10) :
    Σ' (_ : k1_chk3 a7) (_ : k1_chk2 a8) (_ : k1_chk1 i t a6 a7 a8 a9 a10) (_ : BitVec 32) (_ : BitVec 1) (_ : BitVec 1) (_ : BitVec 32) (_ : BitVec 32) (_ : BitVec 32) (_ : BitVec 32), BitVec 1 :=
  let a5 : BitVec 32 := Scf.iv 0#32 1#32 t
  let v66 := Scalar.addi a10 (baseW i)
  let v68 := Scalar.select 1#1 (Scalar.subi a10 1#32) a10
  let v71 := Scalar.addi (Scalar.select (Scalar.cmpi .eq v68 4294967295#32) 51#32 v68) (baseW i)
  let v73 := Scalar.select 1#1 (Scalar.addi a10 1#32) a10
  let v76 := Scalar.addi (Scalar.select (Scalar.cmpi .eq v73 52#32) 0#32 v73) (baseW i)
  let v85 := Scalar.andi (Scalar.cmpi .ne v66 v76) (Scalar.xori (Scalar.cmpi .sge a5 51#32) 1#1)
  ⟨h3, h2, h1, a5, Scalar.cmpi .eq a5 0#32, Scalar.cmpi .eq a5 51#32, v66, v71, v76,
    Scalar.select (Scalar.andi v85 1#1) (Scalar.addi a6 1#32) a6, Scalar.cmpi .ne v66 v71⟩

/-- The next block's row numbers: on their way, if there is a next block. -/
abbrev IdxNext (t : ℕ) : sProp 𝕄 :=
  if t < 52 then IdxFly d (cV i) (jV i) w (q (slot t)) (slot t) (blk i t) else IdxIdle d (cV i) (jV i) w (q (slot t)) (slot t)

set_option maxRecDepth 65536 in
/-- The first part of a trip: the fetch of the next block's row numbers. -/
theorem part1 (t : Fin k1_t1_loop.trips) {Φ : _ → sProp 𝕄} :
    iprop(IdxIdle d (cV i) (jV i) w (q (slot (t.val + 1))) (slot (t.val + 1))
        ∗ (IdxNext d i w q (t.val + 1) -∗ Φ (words1 i t (w6 t.val) (w7 t.val) (w7 t.val) (w9 t.val) (w10 t.val) (chk3_ok t) (chk2_ok t) (chk1_ok i t))))
      ⊢ wp frame (wpE defs₀ 𝒱₀ (V d (cV i) (jV i)) none) Set.univ
          (k1_part1 (F := F) i xV (Memref.isWhole_whole _) iV (Memref.isWhole_whole _) oV (Memref.isWhole_whole _)
            ibV (Memref.isWhole_whole _) cc1_scoped1 obV (Memref.isWhole_whole _) cc1_scoped3 cc1_scoped4 (baseW i) 0#32 1#32 t
            (w6 t.val) (w7 t.val) (w7 t.val) (w9 t.val) (w10 t.val)) Φ := by
  rw [k1_part1_eq_skeleton]
  unfold k1_part1_skel words1
  iintro ⟨Hidle, HΦ⟩
  iapply (wp_assume 𝒱₀ (V d (cV i) (jV i)) none Set.univ (chk3_ok t))
  iapply (wp_assume 𝒱₀ (V d (cV i) (jV i)) none Set.univ (chk2_ok t))
  iapply (wp_assume 𝒱₀ (V d (cV i) (jV i)) none Set.univ (chk1_ok i t))
  dsimp only
  iapply (wp_dite_join (A := IdxIdle d (cV i) (jV i) w (q (slot (t.val + 1))) (slot (t.val + 1)))
    (R := IdxNext d i w q (t.val + 1)) ?_ ?_)
  · intro h
    have ht := (cond1_iff i t).mp h
    have ht' : t.val + 1 < 52 := by omega
    rw [show IdxNext d i w q (t.val + 1) = IdxFly d (cV i) (jV i) w (q (slot (t.val + 1))) (slot (t.val + 1)) (blk i (t.val + 1)) from if_pos ht']
    iintro H
    iapply (wp_fetch d (cV i) (jV i) w (s := slot (t.val + 1)) (k := blk i (t.val + 1)) (q := q (slot (t.val + 1)))
      (off4_eq t ht) ((off5_eq i t ht).trans (by rw [blk_val i ht'])) (off6_eq t ht))
    isplitl [H]; · iexact H
    iintro H; iexact H
  · intro h
    have ht : ¬ t.val + 1 < 52 := fun h' => h ((cond1_iff i t).mpr (by omega))
    rw [show IdxNext d i w q (t.val + 1) = IdxIdle d (cV i) (jV i) w (q (slot (t.val + 1))) (slot (t.val + 1)) from if_neg ht]
  isplitl [Hidle]; · iexact Hidle
  iintro H
  rw [wp_pure]
  imodintro
  iapply HΦ
  iexact H

variable {O : CellTallies nD τ sig (HIx 1)} {W : Waits sig (HIx 1)}

set_option maxRecDepth 65536 in
/-- The second part of a trip: the wait for the block's row numbers, the gather of the rows they name and its wait. -/
theorem part2 (hO : ∀ g, O g none = 0) (hw : ∀ y, (w y : BitVec 32).toNat < 524288) (t : Fin k1_t1_loop.trips)
    {h3 : k1_chk3 (w7 t.val)} {h2 : k1_chk2 (w7 t.val)} {h1 : k1_chk1 i t (w6 t.val) (w7 t.val) (w7 t.val) (w9 t.val) (w10 t.val)}
    {a5 : BitVec 32} {v64 v65 : BitVec 1} {v66 v71 v76 : BitVec 32} {v96 : BitVec 1} {Φ : _ → sProp 𝕄} :
    iprop(levAts (K (F := F)).L (K (F := F)).lev ∗ IdxFly d (cV i) (jV i) w (q (slot t.val)) (slot t.val) (blk i t.val)
        ∗ (∃ g, slotO d (cV i) (jV i) (slot t.val) g) ∗ (xLoc d ↦{qx} x) ∗ sem0 d (cV i) (jV i) gSem ∗ Owe d (cV i) (jV i) O W
        ∗ (∀ r, iprop(OutFull d (cV i) (jV i) w x (slot t.val) (blk i t.val) ∗ IdxIdle d (cV i) (jV i) w (q (slot t.val)) (slot t.val)
            ∗ (xLoc d ↦{qx} x) ∗ sem0 d (cV i) (jV i) gSem ∗ Owe d (cV i) (jV i) O W) -∗ Φ r))
      ⊢ wp frame (wpE defs₀ 𝒱₀ (V d (cV i) (jV i)) none) Set.univ
          (k1_part2 (F := F) i xV (Memref.isWhole_whole _) iV (Memref.isWhole_whole _) oV (Memref.isWhole_whole _)
            ibV (Memref.isWhole_whole _) cc1_scoped1 obV (Memref.isWhole_whole _) cc1_scoped3 cc1_scoped4 t
            (w6 t.val) (w7 t.val) (w7 t.val) (w9 t.val) (w10 t.val) h3 h2 h1 a5 v64 v65 v66 v71 v76 v96) Φ := by
  have ht : t.val < 52 := trips_eq ▸ t.isLt
  rw [k1_part2_eq_skeleton]
  unfold k1_part2_skel
  iintro ⟨#Hlv, Hfly, Ho, Hx, Hgs, HO, HΦ⟩
  dsimp only
  simp only [ite_self]
  iapply (wp_dite_join (A := iprop(levAts (K (F := F)).L (K (F := F)).lev ∗ IdxFly d (cV i) (jV i) w (q (slot t.val)) (slot t.val) (blk i t.val) ∗ Owe d (cV i) (jV i) O W))
    (R := iprop(IdxFull d (cV i) (jV i) w (q (slot t.val)) (slot t.val) (blk i t.val) ∗ sem0 d (cV i) (jV i) (iSem (slot t.val)) ∗ Owe d (cV i) (jV i) O W)) ?_ ?_)
  · intro h
    iintro ⟨#Hlv, Hfly, HO⟩
    iapply (wp_fetchWait d (cV i) (jV i) w (s := slot t.val) (k := blk i t.val) (q := q (slot t.val)) hO (off9_eq t))
    isplitr; · iexact Hlv
    isplitl [Hfly]; · iexact Hfly
    isplitl [HO]; · iexact HO
    iintro H; iexact H
  · intro h
    exact absurd (cond2_true i t) h
  isplitl [Hfly HO]
  · isplitr; · iexact Hlv
    isplitl [Hfly] <;> iassumption
  iintro ⟨Hf, His, HO⟩
  rw [wp_bind]
  iapply (wp_gather d (cV i) (jV i) w x (s := slot t.val) (s' := slot t.val) (k := blk i t.val) (q := q (slot t.val)) (qx := qx) hw (off10_eq t) (off11_eq t))
  isplitl [Hf]; · iexact Hf
  isplitl [Ho]; · iexact Ho
  isplitl [Hx]; · iexact Hx
  isplitl [Hgs]; · iexact Hgs
  iintro Hg
  rw [wp_bind]
  iapply (wp_gatherWait d (cV i) (jV i) w x (s := slot t.val) (s' := slot t.val) (k := blk i t.val) (q := q (slot t.val)) (qx := qx) hO (off10_eq t))
  isplitr; · iexact Hlv
  isplitl [Hg]; · iexact Hg
  isplitl [HO]; · iexact HO
  iintro ⟨⟨Ho, Hf, Hx⟩, Hgs, HO⟩
  rw [wp_pure]
  imodintro
  iapply HΦ
  isplitl [Ho]; · iexact Ho
  isplitl [Hf His]
  · iapply (idxFull_idle d (cV i) (jV i) w (q (slot t.val)) (slot t.val) (blk i t.val))
    isplitl [Hf] <;> iassumption
  isplitl [Hx]; · iexact Hx
  isplitl [Hgs] <;> iassumption

variable (O W)

/-- The blocks in the result after trip `t`: the one of the trip before it has joined. -/
theorem done_step {t : ℕ} (h : 1 ≤ t) :
    iprop(Done d i w x t ∗ blkO d (blk i (t - 1)) (gathered x w)) ⊢ Done d i w x (t + 1) := by
  unfold Done
  rw [show t + 1 - 1 = (t - 1) + 1 by omega, bigSep_range_succ]
  exact (Laws.sep_comm).1

set_option maxRecDepth 65536 in
/-- Every trip takes what the tile holds before it to what it holds before the next. -/
theorem trip (hO : ∀ g, O g none = 0) (hw : ∀ y, (w y : BitVec 32).toNat < 524288) (t : Fin k1_t1_loop.trips)
    (v : BitVec 32 × BitVec 32 × BitVec 32 × BitVec 32 × BitVec 32) :
    InvW d i w x q qx O W t.val v
      ⊢ wp frame (wpE defs₀ 𝒱₀ (V d (cV i) (jV i)) none) Set.univ
          (k1_t1_body (F := F) i xV (Memref.isWhole_whole _) iV (Memref.isWhole_whole _) oV (Memref.isWhole_whole _)
            ibV (Memref.isWhole_whole _) cc1_scoped1 obV (Memref.isWhole_whole _) cc1_scoped3 cc1_scoped4 (baseW i) t v)
          (InvW d i w x q qx O W (t.val + 1)) := by
  have ht : t.val < 52 := trips_eq ▸ t.isLt
  generalize hQ : InvW d i w x q qx O W (t.val + 1) = Q
  unfold InvW Inv IdxPart OutPart
  rw [if_pos ht]
  iintro ⟨%hv, #Hlv, ⟨Hfly, Hidle⟩, ⟨Hoi, Hof⟩, Hdone, Htodo, Hx, Hgs, HO⟩
  subst hv
  unfold k1_t1_body
  dsimp only [words]
  rw [wp_bind]
  iapply (part1 d i w q t)
  isplitl [Hidle]; · iexact Hidle
  iintro Hnext
  rw [wp_bind]
  unfold OutIdle
  icases Hoi with ⟨Ho, Hos⟩
  iapply (part2 d i w x q qx (O := O) (W := W) hO hw t)
  isplitr; · iexact Hlv
  isplitl [Hfly]; · iexact Hfly
  isplitl [Ho]; · iexact Ho
  isplitl [Hx]; · iexact Hx
  isplitl [Hgs]; · iexact Hgs
  isplitl [HO]; · iexact HO
  iintro %r ⟨Hfull, Hidle, Hx, Hgs, HO⟩
  simp only [ite_self]
  unfold Todo
  ihave Htodo' := (Entails.of_eq (bigSep_Ico_succ_bot ht (fun k => iprop(∃ f, blkO (F := F) d (blk i k) f)))) $$ Htodo
  icases Htodo' with ⟨Hb, Htodo⟩
  iapply (wp_dite_join (A := iprop(OutFull d (cV i) (jV i) w x (slot t.val) (blk i t.val) ∗ sem0 d (cV i) (jV i) (oSem (slot t.val)) ∗ ∃ f, blkO d (blk i t.val) f))
    (R := OutFly d (cV i) (jV i) w x (slot t.val) (blk i t.val)) ?_ ?_)
  · intro h
    iintro ⟨Hfull, Hos, Hb⟩
    iapply (wp_send d (cV i) (jV i) w x (s := slot t.val) (k := blk i t.val) (off12_eq t) ((off13_eq i t).trans (by rw [blk_val i ht])) (off14_eq t))
    isplitl [Hfull]; · iexact Hfull
    isplitl [Hos]; · iexact Hos
    isplitl [Hb]; · iexact Hb
    iintro H; iexact H
  · intro h
    exact absurd (cond5_true i t) h
  isplitl [Hfull Hos Hb]
  · isplitl [Hfull]; · iexact Hfull
    isplitl [Hos] <;> iassumption
  iintro Hsent
  unfold IdxNext
  iapply (wp_dite_join (A := iprop(levAts (K (F := F)).L (K (F := F)).lev ∗ Done d i w x t.val ∗ Owe d (cV i) (jV i) O W
      ∗ if 1 ≤ t.val then OutFly d (cV i) (jV i) w x (slot (t.val + 1)) (blk i (t.val - 1))
        else iprop((∃ g, slotO d (cV i) (jV i) (slot (t.val + 1)) g) ∗ sem0 d (cV i) (jV i) (oSem (slot (t.val + 1))))))
    (R := iprop(OutIdle d i (slot (t.val + 1)) ∗ Done d i w x (t.val + 1) ∗ Owe d (cV i) (jV i) O W)) ?_ ?_)
  · intro h
    have h1 := (cond7_iff i t).mp h
    rw [if_pos h1]
    iintro ⟨#Hlv, Hdone, HO, Hof⟩
    iapply (wp_sendWait d (cV i) (jV i) w x (s := slot (t.val + 1)) (k := blk i (t.val - 1)) hO
      ((off17_eq t h1).trans (congrArg (fun s : Fin 2 => ![s.val]) (slot_prev h1))))
    isplitr; · iexact Hlv
    isplitl [Hof]; · iexact Hof
    isplitl [HO]; · iexact HO
    unfold OutSent OutIdle
    iintro ⟨⟨Hb, Hg⟩, Hs, HO⟩
    isplitl [Hg Hs]
    · isplitl [Hg] <;> iassumption
    isplitl [Hdone Hb]
    · iapply (done_step d i w x h1)
      isplitl [Hdone] <;> iassumption
    · iexact HO
  · intro h
    have h1 : ¬ 1 ≤ t.val := fun h' => h ((cond7_iff i t).mpr h')
    rw [if_neg h1]
    unfold OutIdle Done
    rw [show t.val - 1 = 0 by omega, show t.val + 1 - 1 = 0 by omega]
    iintro ⟨-, Hdone, HO, Hof⟩
    isplitl [Hof]; · iexact Hof
    isplitl [Hdone] <;> iassumption
  isplitl [Hdone HO Hof]
  · isplitr; · iexact Hlv
    isplitl [Hdone]; · iexact Hdone
    isplitl [HO] <;> iassumption
  iintro ⟨Hoi, Hdone, HO⟩
  rw [wp_pure]
  imodintro
  subst hQ
  unfold InvW Inv IdxPart OutPart Todo
  rw [if_pos (show 1 ≤ t.val + 1 by omega), show t.val + 1 + 1 = t.val + 2 from rfl, show slot (t.val + 2) = slot t.val from Fin.ext (by simp only [slot]; omega),
    show t.val + 1 - 1 = t.val from rfl]
  isplitr
  · ipureintro
    exact nextWords_eq i t
  isplitr; · iexact Hlv
  isplitl [Hnext Hidle]
  · isplitl [Hnext] <;> iassumption
  isplitl [Hoi Hsent]
  · isplitl [Hoi] <;> iassumption
  isplitl [Hdone]; · iexact Hdone
  isplitl [Htodo]; · iexact Htodo
  isplitl [Hx]; · iexact Hx
  isplitl [Hgs] <;> iassumption

end

end Cert.Proof.Run

end
-- ==== Proof.Tile.lean ====
/-
  The SparseCore kernel on a tile: the first fetch, the 52 trips, the last wait. From the table, the row numbers and the
  tile's 52 blocks of the result, the blocks hold the rows that the row numbers name.
-/
module

public import proofs.«01_k».proof.Proof.Trip

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A run over two is its two pieces. -/
theorem pair_eq (Φ : Fin 2 → sProp 𝕄) : bigSep Finset.univ Φ = iprop(Φ 0 ∗ Φ 1) := BI.bigSep_fin_two Φ

section Scratch
variable (d : Dev nD) (i : grid1.Coords)

/-! ## The tile's scratch -/

abbrev dcell (d : Dev nD) (i : grid1.Coords) (m : DmaSem sig) : GSem nD τ sig := (V d (cV i) (jV i), .dma m)

theorem mem_cell (m : DmaSem sig) (h : (SemLoc.dma m : SemLoc sig).isScoped .scVector = true) : dcell d i m ∈ ownCells (V d (cV i) (jV i)) :=
  (mem_ownCells (g := dcell d i m)).mpr ⟨rfl, h⟩

theorem dcell_ne {m m' : DmaSem sig} (h : m.val ≠ m'.val) : dcell d i m ≠ dcell d i m' := by
  intro e
  exact h (congrArg Fin.val (SemLoc.dma.inj (Prod.mk.inj e).2))

/-- The tile's five semaphores are among its own. -/
theorem ownSems_split :
    (ownSems0 (V d (cV i) (jV i)) : sProp 𝕄)
      = iprop(sem0 d (cV i) (jV i) (iSem 0) ∗ sem0 d (cV i) (jV i) (iSem 1) ∗ sem0 d (cV i) (jV i) (oSem 0) ∗ sem0 d (cV i) (jV i) (oSem 1)
          ∗ sem0 d (cV i) (jV i) gSem
          ∗ bigSep ((((((ownCells (V d (cV i) (jV i))).erase (dcell d i (iSem 0))).erase (dcell d i (iSem 1))).erase (dcell d i (oSem 0))).erase (dcell d i (oSem 1))).erase
              (dcell d i gSem)) fun g => semVal g 0) := by
  have i0 := iSem_eq 0
  have i1 := iSem_eq 1
  have o0 := oSem_eq 0
  have o1 := oSem_eq 1
  have g0 := gSem_eq
  simp only [Fin.val_zero, Fin.val_one] at i0 i1 o0 o1
  unfold SparseCore.Cfg.ownSems0
  rw [SparseCore.bigSep_erase' (mem_cell d i (iSem 0) (by decide +kernel)),
    SparseCore.bigSep_erase' (Finset.mem_erase.mpr ⟨dcell_ne d i (by omega), mem_cell d i (iSem 1) (by decide +kernel)⟩),
    SparseCore.bigSep_erase' (Finset.mem_erase.mpr ⟨dcell_ne d i (by omega), Finset.mem_erase.mpr ⟨dcell_ne d i (by omega), mem_cell d i (oSem 0) (by decide +kernel)⟩⟩),
    SparseCore.bigSep_erase' (Finset.mem_erase.mpr ⟨dcell_ne d i (by omega), Finset.mem_erase.mpr ⟨dcell_ne d i (by omega),
      Finset.mem_erase.mpr ⟨dcell_ne d i (by omega), mem_cell d i (oSem 1) (by decide +kernel)⟩⟩⟩),
    SparseCore.bigSep_erase' (Finset.mem_erase.mpr ⟨dcell_ne d i (by omega), Finset.mem_erase.mpr ⟨dcell_ne d i (by omega),
      Finset.mem_erase.mpr ⟨dcell_ne d i (by omega), Finset.mem_erase.mpr ⟨dcell_ne d i (by omega), mem_cell d i gSem (by decide +kernel)⟩⟩⟩⟩)]

/-- A buffer of the tile. -/
abbrev vbuf (b : Ref sig .scVector) : Loc nD τ sig := (V d (cV i) (jV i)).loc b

/-- The two scratch buffers are among the tile's own. -/
theorem ownBufs_split :
    (ownBufs (V d (cV i) (jV i)) : sProp 𝕄)
      = iprop((∃ f, vbuf d i cc1_scoped0 ↦{fullShare} f) ∗ (∃ f, vbuf d i cc1_scoped2 ↦{fullShare} f)
          ∗ bigSep (((ownRefs (τ := τ) (.scVector (cV i) (jV i))).erase ((Proc.scVector (cV i) (jV i)).devRef cc1_scoped0)).erase
              ((Proc.scVector (cV i) (jV i)).devRef cc1_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV i) (jV i)) (b := (Proc.scVector (cV i) (jV i)).devRef cc1_scoped2) rfl⟩)]

/-! ## The two slots of a scratch buffer -/

/-- The elements of slot `s` of the row-number buffer. -/
abbrev iSlotSet (s : Fin 2) : Finset S2x1x1x256.Idx := (idxSlot s).view.set
/-- The elements of slot `s` of the row buffer. -/
abbrev oSlotSet (s : Fin 2) : Finset S2x256x128.Idx := (outSlot s).view.set

theorem mem_iSlot {s : Fin 2} {a : S2x1x1x256.Idx} : a ∈ iSlotSet s ↔ (a 0).val = s.val := by
  have e : iSlotSet s = (Rect.unit (s := S2x1x1x256) ![s.val, 0, 0, 0] S1x1x1x256.size (idxSlot_inb s)).set :=
    (View.set_reshape _ _).trans (View.set_slice_whole cc1_scoped0 _)
  rw [e, Rect.mem_set_unit]
  constructor
  · intro h
    have h0 : s.val ≤ (a 0).val ∧ (a 0).val < s.val + 1 := h 0
    omega
  · intro h b
    match b with
    | 0 => exact (show s.val ≤ (a 0).val ∧ (a 0).val < s.val + 1 by omega)
    | 1 => exact ⟨Nat.zero_le _, by have := (a 1).isLt; exact this⟩
    | 2 => exact ⟨Nat.zero_le _, by have := (a 2).isLt; exact this⟩
    | 3 => exact ⟨Nat.zero_le _, by have := (a 3).isLt; simpa using this⟩

theorem mem_oSlot {s : Fin 2} {a : S2x256x128.Idx} : a ∈ oSlotSet s ↔ (a 0).val = s.val := by
  have e : oSlotSet s = (Rect.unit (s := S2x256x128) ![s.val, 0, 0] S1x256x128.size (outSlot_inb s)).set :=
    (View.set_reshape _ _).trans (View.set_slice_whole cc1_scoped2 _)
  rw [e, Rect.mem_set_unit]
  constructor
  · intro h
    have h0 : s.val ≤ (a 0).val ∧ (a 0).val < s.val + 1 := h 0
    omega
  · intro h b
    match b with
    | 0 => exact (show s.val ≤ (a 0).val ∧ (a 0).val < s.val + 1 by omega)
    | 1 => exact ⟨Nat.zero_le _, by have := (a 1).isLt; simpa using this⟩
    | 2 => exact ⟨Nat.zero_le _, by have := (a 2).isLt; simpa using this⟩

theorem iSlot_disjoint : ∀ s ∈ (Finset.univ : Finset (Fin 2)), ∀ s' ∈ (Finset.univ : Finset (Fin 2)), s ≠ s' → Disjoint (iSlotSet s) (iSlotSet s') := by
  intro s _ s' _ h
  rw [Finset.disjoint_left]
  intro a ha ha'
  rw [mem_iSlot] at ha ha'
  exact h (Fin.ext (by omega))
theorem oSlot_disjoint : ∀ s ∈ (Finset.univ : Finset (Fin 2)), ∀ s' ∈ (Finset.univ : Finset (Fin 2)), s ≠ s' → Disjoint (oSlotSet s) (oSlotSet s') := by
  intro s _ s' _ h
  rw [Finset.disjoint_left]
  intro a ha ha'
  rw [mem_oSlot] at ha ha'
  exact h (Fin.ext (by omega))
theorem iSlot_cover : (Finset.univ : Finset (Fin 2)).biUnion iSlotSet = Finset.univ := by
  ext a
  simp only [Finset.mem_biUnion, Finset.mem_univ, true_and, iff_true]
  exact ⟨a 0, mem_iSlot.mpr rfl⟩
theorem oSlot_cover : (Finset.univ : Finset (Fin 2)).biUnion oSlotSet = Finset.univ := by
  ext a
  simp only [Finset.mem_biUnion, Finset.mem_univ, true_and, iff_true]
  exact ⟨a 0, mem_oSlot.mpr rfl⟩

/-- The row-number buffer is its two slots. -/
theorem iBuf_split (f : Buf (Elt F) (vbuf d i cc1_scoped0)) :
    (vbuf d i cc1_scoped0 ↦{fullShare} f : sProp 𝕄) ⊢ iprop(slotI d (cV i) (jV i) 0 f ∗ slotI d (cV i) (jV i) 1 f) := by
  refine (Entails.of_eq (show (vbuf d i cc1_scoped0 ↦{fullShare} f : sProp 𝕄) = _ from ?_)).trans (Entails.of_eq (pair_eq (Φ := fun s => slotI d (cV i) (jV i) s f)))
  rw [← pointsTo_biUnion Finset.univ (ℓ := vbuf d i cc1_scoped0) iSlotSet iSlot_disjoint, iSlot_cover]
theorem oBuf_split (f : Buf (Elt F) (vbuf d i cc1_scoped2)) :
    (vbuf d i cc1_scoped2 ↦{fullShare} f : sProp 𝕄) ⊢ iprop(slotO d (cV i) (jV i) 0 f ∗ slotO d (cV i) (jV i) 1 f) := by
  refine (Entails.of_eq (show (vbuf d i cc1_scoped2 ↦{fullShare} f : sProp 𝕄) = _ from ?_)).trans (Entails.of_eq (pair_eq (Φ := fun s => slotO d (cV i) (jV i) s f)))
  rw [← pointsTo_biUnion Finset.univ (ℓ := vbuf d i cc1_scoped2) oSlotSet oSlot_disjoint, oSlot_cover]

theorem iBuf_join : iprop((∃ g, slotI d (cV i) (jV i) 0 g) ∗ ∃ g, slotI d (cV i) (jV i) 1 g) ⊢ (iprop(∃ f, vbuf d i cc1_scoped0 ↦{fullShare} f) : sProp 𝕄) := by
  iintro ⟨⟨%g, Hg⟩, ⟨%g', Hg'⟩⟩
  ihave H := (Entails.of_eq (pair_eq (Φ := fun s : Fin 2 => (vbuf d i cc1_scoped0 ↦[iSlotSet s]{fullShare} (if s = 0 then g else g') : sProp 𝕄))).symm) $$ [Hg Hg']
  · isplitl [Hg]
    · iexact Hg
    · iexact Hg'
  ihave H' := (pointsTo_biUnion_join (ℓ := vbuf d i cc1_scoped0) (q := fullShare) (Val := Elt F) Finset.univ iSlotSet (fun s => if s = 0 then g else g') g iSlot_disjoint) $$ H
  rw [iSlot_cover]
  icases H' with ⟨%f, -, Hf⟩
  iexists f; iexact Hf
theorem oBuf_join : iprop((∃ g, slotO d (cV i) (jV i) 0 g) ∗ ∃ g, slotO d (cV i) (jV i) 1 g) ⊢ (iprop(∃ f, vbuf d i cc1_scoped2 ↦{fullShare} f) : sProp 𝕄) := by
  iintro ⟨⟨%g, Hg⟩, ⟨%g', Hg'⟩⟩
  ihave H := (Entails.of_eq (pair_eq (Φ := fun s : Fin 2 => (vbuf d i cc1_scoped2 ↦[oSlotSet s]{fullShare} (if s = 0 then g else g') : sProp 𝕄))).symm) $$ [Hg Hg']
  · isplitl [Hg]
    · iexact Hg
    · iexact Hg'
  ihave H' := (pointsTo_biUnion_join (ℓ := vbuf d i cc1_scoped2) (q := fullShare) (Val := Elt F) Finset.univ oSlotSet (fun s => if s = 0 then g else g') g oSlot_disjoint) $$ H
  rw [oSlot_cover]
  icases H' with ⟨%f, -, Hf⟩
  iexists f; iexact Hf

variable (w : Buf (Elt F) (iLoc d)) (x : Buf (Elt F) (xLoc d)) (qi qx : PosShare TreeShare)

/-- The share of the row numbers that slot `s` fetches with. -/
def slotShare (s : Fin 2) : PosShare TreeShare := if s = 0 then qi.left else qi.right

/-- What a tile ends with: its 52 blocks gathered. -/
abbrev TileOut : sProp 𝕄 := bigSep (Finset.range 52) fun k => blkO d (blk i k) (gathered x w)

variable [FloatOps F]

/-- A check that holds. -/
theorem wp_check {thr : Thread nD τ} {P : Prop} {dec : Decidable P} {Φ : PLift P → sProp 𝕄} (h : P) :
    Φ ⟨h⟩ ⊢ wp frame (wpE (defs₀ (F := F)) 𝒱₀ thr none) Set.univ (Prog.lift (TpuEff.assume P dec)) Φ := by
  refine BIBase.Entails.trans ?_ (wp_assume 𝒱₀ thr none Set.univ h)
  iintro H
  rw [wp_ret]
  imodintro
  iexact H

theorem slotShare_zero : slotShare qi 0 = qi.left := rfl

set_option maxRecDepth 65536 in
/-- The kernel on a tile. -/
theorem tile_body (hF : (K (F := F)).Facts) (hw : ∀ y, (w y : BitVec 32).toNat < 524288)
    (O : CellTallies nD τ sig (HIx 1)) (W : Waits sig (HIx 1)) (hO : ∀ g, O g none = 0) :
    iprop(levAts (K (F := F)).L (K (F := F)).lev ∗ ((xLoc d ↦{qx} x) ∗ (iLoc d ↦{qi} w) ∗ Todo d i 0)
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc1_gather_kernel (F := F) i xV (Memref.isWhole_whole _) iV (Memref.isWhole_whole _) oV (Memref.isWhole_whole _)
            ibV (Memref.isWhole_whole _) cc1_scoped1 obV (Memref.isWhole_whole _) cc1_scoped3 cc1_scoped4)
          fun _ => iprop(TileOut d i w x
            ∗ scopedBufs (V d (cV i) (jV i)) ∗ scopedSems0 (V d (cV i) (jV i))
            ∗ ∃ W', ⌜∀ p ∈ W', p ∈ W ∨ p.2 = none⌝ ∗ owes (V d (cV i) (jV i)) O W') := by
  rw [cc1_gather_kernel_eq_skeleton, (K (F := F)).scopedBufs_V hF d (cV i) (jV i), SparseCore.Cfg.scopedSems0_V (Val := Elt F) d (cV i) (jV i), ownSems_split, ownBufs_split]
  unfold cc1_gather_kernel_skel
  iintro ⟨#Hlv, ⟨Hx, Hw, Htodo⟩, ⟨⟨%fi, Hi⟩, ⟨%fo, Ho⟩, Hbufs⟩, ⟨Hi0, Hi1, Ho0, Ho1, Hg, Hsems⟩, HO⟩
  ihave Hi' := (iBuf_split d i fi) $$ Hi
  icases Hi' with ⟨Hia, Hib⟩
  ihave Ho' := (oBuf_split d i fo) $$ Ho
  icases Ho' with ⟨Hoa, Hob⟩
  ihave Hw' := (pointsTo_share (PosShare.mem_left_op_right qi)).1 $$ Hw
  icases Hw' with ⟨Hwa, Hwb⟩
  rw [wp_bind, k1_part3_eq_skeleton]
  unfold k1_part3_skel
  dsimp only
  rw [wp_pure]
  imodintro
  rw [wp_bind, k1_part4_eq_skeleton]
  unfold k1_part4_skel
  dsimp only
  rw [wp_bind]
  iapply (wp_fetch d (cV i) (jV i) w (s := 0) (k := blk i 0) (q := slotShare qi 0) off1_eq ((off2_eq i).trans (by rw [blk_val i (by decide)]; rfl)) off3_eq)
  isplitl [Hia Hi0 Hwa]
  · unfold IdxIdle
    isplitl [Hia]; · iexists fi; iexact Hia
    isplitl [Hi0]; · iexact Hi0
    iexact Hwa
  iintro Hfly
  rw [wp_bind]
  iapply (Scf.wp_for frame (wpE (defs₀ (F := F)) 𝒱₀ (V d (cV i) (jV i)) none) Set.univ _ _ _ k1_t1_ok _ _
    (InvW d i w x (slotShare qi) qx O W) (trip d i w x (slotShare qi) qx O W hO hw))
  isplitl [Hx Htodo Hib Hi1 Hwb Hoa Hob Ho0 Ho1 Hg HO Hfly]
  · unfold InvW Inv IdxPart OutPart Done
    rw [if_pos (by decide), if_neg (by decide)]
    isplitr; · ipureintro; rfl
    isplitr; · iexact Hlv
    isplitl [Hfly Hib Hi1 Hwb]
    · isplitl [Hfly]; · iexact Hfly
      unfold IdxIdle
      isplitl [Hib]; · iexists fi; iexact Hib
      isplitl [Hi1]; · iexact Hi1
      iexact Hwb
    isplitl [Hoa Hob Ho0 Ho1]
    · unfold OutIdle
      isplitl [Hoa Ho0]
      · isplitl [Hoa]; · iexists fo; iexact Hoa
        iexact Ho0
      · isplitl [Hob]; · iexists fo; iexact Hob
        iexact Ho1
    isplitr
    · rw [show (0 : ℕ) - 1 = 0 from rfl, Finset.range_zero, bigSep_empty]
      iempintro
    isplitl [Htodo]; · iexact Htodo
    isplitl [Hx]; · iexact Hx
    isplitl [Hg]; · iexact Hg
    unfold Owe
    iexists W
    isplitr
    · ipureintro; exact fun p hp => Or.inl hp
    · iexact HO
  iintro %acc HI
  unfold InvW
  icases HI with ⟨%hv, HI⟩
  have hv' : acc = words 52 := hv.trans (congrArg words trips_eq)
  subst hv'
  rw [wp_bind]
  iapply (wp_check (chk5_ok i))
  rw [wp_bind]
  iapply (wp_check chk4_ok)
  rw [wp_pure]
  imodintro
  dsimp only
  rw [wp_bind]
  rw [show Scf.trips k1_t1_loop.lb k1_t1_loop.ub k1_t1_loop.st = 52 from trips_eq]
  unfold Inv IdxPart OutPart Done
  rw [if_neg (by decide), if_pos (by decide)]
  icases HI with ⟨-, ⟨Hia, Hib⟩, ⟨Hoa, Hob⟩, Hdone, -, -, Hg, HO⟩
  iapply (wp_sendWait d (cV i) (jV i) w x (s := 1) (k := blk i 51) hO (off20_eq))
  isplitr; · iexact Hlv
  isplitl [Hob]; · iexact Hob
  isplitl [HO]; · iexact HO
  unfold OutSent OutIdle IdxIdle
  iintro ⟨⟨Hb, Hob⟩, Hsb, HO⟩
  icases Hoa with ⟨Hoa, Hsa⟩
  icases Hia with ⟨Hia, Hita, -⟩
  icases Hib with ⟨Hib, Hitb, -⟩
  rw [wp_pure]
  imodintro
  isplitl [Hdone Hb]
  · unfold TileOut
    iapply (Entails.of_eq (bigSep_range_succ 51 (fun k => blkO (F := F) d (blk i k) (gathered x w))).symm)
    isplitl [Hb] <;> iassumption
  isplitl [Hia Hib Hoa Hob Hbufs]
  · isplitl [Hia Hib]
    · iapply (iBuf_join d i)
      isplitl [Hia]
      · iexact Hia
      · iexact Hib
    isplitl [Hoa Hob]
    · iapply (oBuf_join d i)
      isplitl [Hoa]
      · iexact Hoa
      · iexact Hob
    iexact Hbufs
  isplitl [Hita Hitb Hsa Hsb Hg Hsems]
  · isplitl [Hita]; · iexact Hita
    isplitl [Hitb]; · iexact Hitb
    isplitl [Hsa]; · iexact Hsa
    isplitl [Hsb]; · iexact Hsb
    isplitl [Hg] <;> iassumption
  unfold Owe
  iexact HO

end Scratch

end Cert.Proof.Run

end
-- ==== Proof.Tasks.lean ====
/-
  The launch of the SparseCore kernel: what each tile's task is handed and hands back, the task's obligation, and how the
  TensorCore deals the table, the row numbers and the result's blocks to the 32 tasks and takes the result together again.

  The table is known only by what a predicate says of it, and the result only by a predicate on its elements: the packing
  region leaves some of the table's elements free.
-/
module

public import proofs.«01_k».proof.Proof.Tile

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## What the tasks are handed -/

/-- A tile's coordinates in the kernel's grid. -/
abbrev coordsV (c : Fin (grid1.bound 0)) (s : Fin (grid1.bound 1)) : grid1.Coords
  | 0 => c
  | 1 => s
  | ⟨_ + 2, h⟩ => absurd h (Nat.not_lt.2 (Nat.le_add_left _ _))

/-- The share of the table and of the row numbers that a task reads with. -/
abbrev tq (a : Fin 2) (b : Fin 16) : PosShare TreeShare := leaf 4 (leaf 1 fullShare a) b

/-- What the launch is about: what is known of the table, the row numbers, and what is to be shown of the result. -/
structure Spec (F : FTy → Type) where
  /-- What is known of the packed table. -/
  tab : (d : Dev nD) → Buf (Elt F) (xLoc d) → Prop
  /-- The row numbers. -/
  ids : (d : Dev nD) → Buf (Elt F) (iLoc d)
  /-- What is to be shown of an element of the result. -/
  out : (d : Dev nD) → S425984x128.Idx → F .f32 → Prop
  /-- The row numbers are rows of the packed table. -/
  ids_lt : ∀ d y, (ids d y : BitVec 32).toNat < 524288
  /-- Whatever table it is, the rows gathered from it are as wanted. -/
  out_of_tab : ∀ d x, tab d x → ∀ e, out d e (gathered x (ids d) e)

variable (Q : Spec F)

/-- A task's operands: a share of a table, a share of the row numbers, its blocks of the result. -/
def TaskIn (d : Dev nD) (a : Fin 2) (b : Fin 16) : sProp 𝕄 :=
  iprop(∃ x : Buf (Elt F) (xLoc d), ⌜Q.tab d x⌝ ∗ (xLoc d ↦{tq a b} x) ∗ (iLoc d ↦{tq a b} Q.ids d) ∗ Todo d (coordsV a b) 0)

/-- A task's result: its blocks, every element as wanted. -/
def TaskOut (d : Dev nD) (a : Fin 2) (b : Fin 16) : sProp 𝕄 :=
  bigSep (Finset.range 52) fun k => iprop(∃ g : Buf (Elt F) (oLoc d), ⌜∀ e ∈ blkSet (blk (coordsV a b) k), Q.out d e (g e)⌝
    ∗ blkO d (blk (coordsV a b) k) g)

instance (d : Dev nD) (a : Fin 2) (b : Fin 16) : BI.Storable (upEmb : UEmb _ 𝕄) (TaskIn Q d a b) := by
  unfold TaskIn Todo; infer_instance
instance (d : Dev nD) (a : Fin 2) (b : Fin 16) : BI.Storable (upEmb : UEmb _ 𝕄) (TaskOut Q d a b) := by
  unfold TaskOut; infer_instance

theorem nCore_zero : (K (F := F)).nCore 0 = 2 := rfl
theorem nSub_zero : (K (F := F)).nSub 0 = 16 := rfl

/-- What the call's handshakes carry: a SparseCore is handed its sixteen tasks' operands and hands their results back. -/
def P : (K (F := F)).Pay (nD := nD) (Val := Elt F) (Name := ℕ) (U := UU) where
  st := fun q d c => match q with
    | 0 => bigSep Finset.univ fun b : Fin 16 => TaskIn Q d (Fin.cast nCore_zero c) b
  dn := fun q d c => match q with
    | 0 => bigSep Finset.univ fun b : Fin 16 => TaskOut Q d (Fin.cast nCore_zero c) b
  go := fun q d c i => match q with
    | 0 => TaskIn Q d (Fin.cast nCore_zero c) (Fin.cast nSub_zero i)
  td := fun q d c i => match q with
    | 0 => TaskOut Q d (Fin.cast nCore_zero c) (Fin.cast nSub_zero i)
  x := fun _ _ => iprop(emp)

instance P_storable : (P Q).IsStorable where
  st q d c := match q with
    | 0 => (inferInstance : BI.Storable (upEmb : UEmb _ 𝕄) (bigSep Finset.univ fun b : Fin 16 => TaskIn Q d (Fin.cast nCore_zero c) b))
  dn q d c := match q with
    | 0 => (inferInstance : BI.Storable (upEmb : UEmb _ 𝕄) (bigSep Finset.univ fun b : Fin 16 => TaskOut Q d (Fin.cast nCore_zero c) b))
  go q d c i := match q with
    | 0 => (inferInstance : BI.Storable (upEmb : UEmb _ 𝕄) (TaskIn Q d (Fin.cast nCore_zero c) (Fin.cast nSub_zero i)))
  td q d c i := match q with
    | 0 => (inferInstance : BI.Storable (upEmb : UEmb _ 𝕄) (TaskOut Q d (Fin.cast nCore_zero c) (Fin.cast nSub_zero i)))

/-! ## The task's obligation -/

section Tile
variable [FloatOps F]

/-- On a tile of the grid the body table runs the kernel at the tile's coordinates. -/
theorem defs₀_vector (c : Fin τ.nSC) (s : Fin τ.nSub) :
    defs₀ (F := F) (.scVector c s) 1 ()
      = SparseCore.onTile hcore1 hsub1 (fun c s => cc1_gather_kernel (coordsV c s)
          xV (Memref.isWhole_whole _) iV (Memref.isWhole_whole _) oV (Memref.isWhole_whole _)
          ibV (Memref.isWhole_whole _) cc1_scoped1 obV (Memref.isWhole_whole _) cc1_scoped3 cc1_scoped4) ⟨⟩ c s := rfl

omit [FloatOps F] in
/-- A task's exit: its rows are as wanted, and its waits are those it may have made. -/
theorem obl_post {d : Dev nD} {a : Fin 2} {b : Fin 16} {x : Buf (Elt F) (xLoc d)} (hx : Q.tab d x) {thr : Thread nD τ} {B C : sProp 𝕄}
    {O : CellTallies nD τ sig (HIx 1)} {W : Waits sig (HIx 1)} {q : Fin 1} :
    iprop(TileOut d (coordsV a b) (Q.ids d) x ∗ B ∗ C ∗ ∃ W', ⌜∀ p ∈ W', p ∈ W ∨ p.2 = none⌝ ∗ owes thr O W')
      ⊢ iprop(TaskOut Q d a b ∗ B ∗ C ∗ ∃ W', ⌜∀ p ∈ W', p ∈ W ∨ p.2 = none ∨ p.2 = some q⌝ ∗ owes thr O W') := by
  iintro ⟨HA, HB, HC, %W', %hW', HO⟩
  isplitl [HA]
  · iapply (show TileOut d (coordsV a b) (Q.ids d) x ⊢ TaskOut Q d a b from bigSep_mono fun k _ => by
      show blkO d (blk (coordsV a b) k) (gathered x (Q.ids d)) ⊢ _
      iintro H
      iexists (gathered x (Q.ids d))
      isplitr
      · ipureintro; exact fun e _ => Q.out_of_tab d x hx e
      · iexact H)
    iexact HA
  isplitl [HB]; · iexact HB
  isplitl [HC]; · iexact HC
  iexists W'; isplitr
  · ipureintro; exact fun p hp => (hW' p hp).imp_right Or.inl
  · iexact HO

set_option maxRecDepth 16384 in
/-- Every task of the call, proved once at a symbolic tile. -/
theorem tileObl (hF : (K (F := F)).Facts) : (K (F := F)).TileObl (D (F := F)) 𝒱 (P Q) v₀ 0 := by
  intro d c i O W hO _ _
  simp only [show (P Q).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  change iprop(_ ∗ _ ∗ TaskIn Q d (Fin.cast nCore_zero c) (Fin.cast nSub_zero i) ∗ _) ⊢ _
  unfold TaskIn
  iintro ⟨Hlv, -, ⟨%x, %hx, Hx, Hi, Ht⟩, Hb, Hs, HO⟩
  iapply ((tile_body d (coordsV ⟨_, hci.1⟩ ⟨_, hci.2⟩) (Q.ids d) x _ _ hF (Q.ids_lt d) O W hO).trans
    (wp_mono frame _ _ fun _ => obl_post Q hx))
  isplitl [Hlv]; · iexact Hlv
  isplitl [Hx Hi Ht]
  · isplitl [Hx]; · iexact Hx
    isplitl [Hi]; · iexact Hi
    iexact Ht
  isplitl [Hb]; · iexact Hb
  isplitl [Hs]; · iexact Hs
  iexact HO

end Tile

/-- Over the tiles of a SparseCore. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- Over the SparseCores. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands are its tasks', and its results theirs. -/
theorem vecSplit : (K (F := F)).VecSplit' (P Q) 0 := by
  intro d c
  change (bigSep Finset.univ fun b : Fin 16 => TaskIn Q d (Fin.cast nCore_zero c) b) ⊢ |={Set.univ}=> iprop(
      (bigSep Finset.univ fun i : Fin ((K (F := F)).nSub 0) => TaskIn Q d (Fin.cast nCore_zero c) (Fin.cast nSub_zero i))
      ∗ ((bigSep Finset.univ fun i : Fin ((K (F := F)).nSub 0) => TaskOut Q d (Fin.cast nCore_zero c) (Fin.cast nSub_zero i))
          -∗ bigSep Finset.univ fun b : Fin 16 => TaskOut Q d (Fin.cast nCore_zero c) b))
  rw [bigSep_tasks (F := F) (fun i => TaskIn Q d (Fin.cast nCore_zero c) i), bigSep_tasks (F := F) (fun i => TaskOut Q d (Fin.cast nCore_zero c) i)]
  iintro H; imodintro
  isplitl [H]; · iexact H
  iintro H; iexact H

/-! ## Dealing and collecting -/

/-- The blocks of a task. -/
abbrev taskSet (a : Fin 2) (b : Fin 16) : Finset S425984x128.Idx := (Finset.range 52).biUnion fun k => blkSet (blk (coordsV a b) k)
/-- The blocks of a SparseCore. -/
abbrev coreSet (a : Fin 2) : Finset S425984x128.Idx := Finset.univ.biUnion fun b => taskSet a b

theorem mem_blk (a : Fin 2) (b : Fin 16) {k : ℕ} (hk : k < 52) (e : S425984x128.Idx) :
    e ∈ blkSet (blk (coordsV a b) k) ↔ 256 * (832 * a.val + 52 * b.val + k) ≤ (e 0).val ∧ (e 0).val < 256 * (832 * a.val + 52 * b.val + k) + 256 := by
  rw [mem_outBlk, blk_val _ hk, show base (coordsV a b) = 52 * b.val + 832 * a.val from rfl]
  constructor <;> (intro h; constructor <;> omega)

theorem mem_task (a : Fin 2) (b : Fin 16) (e : S425984x128.Idx) :
    e ∈ taskSet a b ↔ 256 * (832 * a.val + 52 * b.val) ≤ (e 0).val ∧ (e 0).val < 256 * (832 * a.val + 52 * b.val + 52) := by
  rw [Finset.mem_biUnion]
  constructor
  · rintro ⟨k, hk, he⟩
    have hk' := Finset.mem_range.mp hk
    have := (mem_blk a b hk' e).mp he
    constructor <;> omega
  · intro h
    have hk : (e 0).val / 256 - (832 * a.val + 52 * b.val) < 52 := by omega
    exact ⟨_, Finset.mem_range.mpr hk, (mem_blk a b hk e).mpr ⟨by omega, by omega⟩⟩

theorem mem_core (a : Fin 2) (e : S425984x128.Idx) :
    e ∈ coreSet a ↔ 212992 * a.val ≤ (e 0).val ∧ (e 0).val < 212992 * a.val + 212992 := by
  rw [Finset.mem_biUnion]
  constructor
  · rintro ⟨b, -, he⟩
    have := (mem_task a b e).mp he
    have hb := b.isLt
    constructor <;> omega
  · intro h
    have hb : ((e 0).val - 212992 * a.val) / 13312 < 16 := by omega
    exact ⟨⟨_, hb⟩, Finset.mem_univ _, (mem_task a _ e).mpr ⟨by show 256 * (832 * a.val + 52 * (((e 0).val - 212992 * a.val) / 13312)) ≤ _; omega,
      by show _ < 256 * (832 * a.val + 52 * (((e 0).val - 212992 * a.val) / 13312) + 52); omega⟩⟩

theorem blks_disjoint (a : Fin 2) (b : Fin 16) : ∀ k ∈ Finset.range 52, ∀ k' ∈ Finset.range 52, k ≠ k' →
    Disjoint (blkSet (blk (coordsV a b) k)) (blkSet (blk (coordsV a b) k')) := by
  intro k hk k' hk' h
  refine Finset.disjoint_left.mpr fun e h₁ h₂ => h ?_
  have h₁ := (mem_blk a b (Finset.mem_range.mp hk) e).mp h₁
  have h₂ := (mem_blk a b (Finset.mem_range.mp hk') e).mp h₂
  omega

theorem tasks_disjoint (a : Fin 2) : ∀ b ∈ (Finset.univ : Finset (Fin 16)), ∀ b' ∈ (Finset.univ : Finset (Fin 16)), b ≠ b' →
    Disjoint (taskSet a b) (taskSet a b') := by
  intro b _ b' _ h
  refine Finset.disjoint_left.mpr fun e h₁ h₂ => h (Fin.ext ?_)
  have h₁ := (mem_task a b e).mp h₁
  have h₂ := (mem_task a b' e).mp h₂
  omega

theorem cores_disjoint : ∀ a ∈ (Finset.univ : Finset (Fin 2)), ∀ a' ∈ (Finset.univ : Finset (Fin 2)), a ≠ a' → Disjoint (coreSet a) (coreSet a') := by
  intro a _ a' _ h
  refine Finset.disjoint_left.mpr fun e h₁ h₂ => h (Fin.ext ?_)
  have h₁ := (mem_core a e).mp h₁
  have h₂ := (mem_core a' e).mp h₂
  omega

theorem cores_cover : (Finset.univ : Finset (Fin 2)).biUnion coreSet = (Finset.univ : Finset S425984x128.Idx) := by
  refine Finset.eq_univ_of_forall fun e => ?_
  have he : (e 0).val < 425984 := (e 0).isLt
  have ha : (e 0).val / 212992 < 2 := by omega
  exact Finset.mem_biUnion.mpr ⟨⟨_, ha⟩, Finset.mem_univ _, (mem_core _ e).mpr ⟨by show 212992 * ((e 0).val / 212992) ≤ _; omega,
    by show _ < 212992 * ((e 0).val / 212992) + 212992; omega⟩⟩

/-- The result's array, dealt to the tasks. -/
theorem out_deal (d : Dev nD) (f : Buf (Elt F) (oLoc d)) :
    (oLoc d ↦{fullShare} f : sProp 𝕄) = bigSep Finset.univ fun a : Fin 2 => bigSep Finset.univ fun b : Fin 16 =>
      bigSep (Finset.range 52) fun k => blkO d (blk (coordsV a b) k) f := by
  have h₁ : (oLoc d ↦{fullShare} f : sProp 𝕄) = bigSep Finset.univ fun a : Fin 2 => oLoc d ↦[coreSet a]{fullShare} f := by
    rw [← pointsTo_biUnion Finset.univ (ℓ := oLoc d) coreSet cores_disjoint, cores_cover]; try rfl
  rw [h₁]
  refine bigSep_congr fun a _ => ?_
  rw [show (oLoc d ↦[coreSet a]{fullShare} f : sProp 𝕄) = bigSep Finset.univ fun b : Fin 16 => oLoc d ↦[taskSet a b]{fullShare} f from
    pointsTo_biUnion Finset.univ (ℓ := oLoc d) (fun b => taskSet a b) (tasks_disjoint a)]
  refine bigSep_congr fun b _ => ?_
  exact pointsTo_biUnion (Finset.range 52) (ℓ := oLoc d) (fun k => blkSet (blk (coordsV a b) k)) (blks_disjoint a b)

/-- An array read by all the tasks, dealt to them. -/
theorem in_deal {ℓ : Loc nD τ sig} (f : Buf (Elt F) ℓ) :
    (ℓ ↦{fullShare} f : sProp 𝕄) = bigSep Finset.univ fun a : Fin 2 => bigSep Finset.univ fun b : Fin 16 => ℓ ↦{tq a b} f := by
  rw [show (ℓ ↦{fullShare} f : sProp 𝕄) = bigSep Finset.univ fun a : Fin 2 => ℓ ↦{leaf 1 fullShare a} f from pointsTo_leaves Finset.univ f 1 fullShare]
  exact bigSep_congr fun a _ => pointsTo_leaves Finset.univ f 4 (leaf 1 fullShare a)

/-- The call's operands, from the whole arrays. -/
theorem call_in (d : Dev nD) (x : Buf (Elt F) (xLoc d)) (hx : Q.tab d x) (f : Buf (Elt F) (oLoc d)) :
    (iprop((xLoc d ↦{fullShare} x) ∗ (iLoc d ↦{fullShare} Q.ids d) ∗ (oLoc d ↦{fullShare} f)) : sProp 𝕄)
      ⊢ bigSep Finset.univ fun c : Fin ((K (F := F)).nCore 0) => (P Q).st 0 d c := by
  change _ ⊢ bigSep Finset.univ fun c : Fin ((K (F := F)).nCore 0) => bigSep Finset.univ fun b : Fin 16 => TaskIn Q d (Fin.cast nCore_zero c) b
  rw [bigSep_cores (F := F) (fun a => bigSep Finset.univ fun b : Fin 16 => TaskIn Q d a b), in_deal x, in_deal (Q.ids d), out_deal d f,
    ← bigSep_sep', ← bigSep_sep']
  refine bigSep_mono fun a _ => ?_
  rw [← bigSep_sep', ← bigSep_sep']
  refine bigSep_mono fun b _ => ?_
  unfold TaskIn Todo
  rw [← Finset.range_eq_Ico]
  refine (show iprop((xLoc d ↦{tq a b} x) ∗ (iLoc d ↦{tq a b} Q.ids d) ∗ bigSep (Finset.range 52) fun k => blkO d (blk (coordsV a b) k) f) ⊢ _ from ?_)
  iintro ⟨Hx, Hi, Ho⟩
  iexists x
  isplitr; · ipureintro; exact hx
  isplitl [Hx]; · iexact Hx
  isplitl [Hi]; · iexact Hi
  iapply (show (bigSep (Finset.range 52) fun k => blkO d (blk (coordsV a b) k) f) ⊢ bigSep (Finset.range 52) fun k => iprop(∃ f, blkO d (blk (coordsV a b) k) f) from
    bigSep_mono fun k _ => by show blkO d (blk (coordsV a b) k) f ⊢ _; iintro H; iexists f; iexact H)
  iexact Ho

/-- Disjoint pieces of an array with a property of their elements are one piece with it. -/
theorem pieces_join {T : Type} [DecidableEq T] (d : Dev nD) (p : S425984x128.Idx → F .f32 → Prop) (f₀ : Buf (Elt F) (oLoc d)) (S : Finset T)
    (A : T → Finset S425984x128.Idx) (h : ∀ t ∈ S, ∀ t' ∈ S, t ≠ t' → Disjoint (A t) (A t')) :
    (bigSep S fun t => iprop(∃ g : Buf (Elt F) (oLoc d), ⌜∀ e ∈ A t, p e (g e)⌝ ∗ oLoc d ↦[A t]{fullShare} g) : sProp 𝕄)
      ⊢ iprop(∃ g : Buf (Elt F) (oLoc d), ⌜∀ e ∈ S.biUnion A, p e (g e)⌝ ∗ oLoc d ↦[S.biUnion A]{fullShare} g) := by
  have : Nonempty (Buf (Elt F) (oLoc d)) := ⟨f₀⟩
  refine (bigSep_exists_pi S (fun t (g : Buf (Elt F) (oLoc d)) => iprop(⌜∀ e ∈ A t, p e (g e)⌝ ∗ oLoc d ↦[A t]{fullShare} g))).trans ?_
  iintro ⟨%fs, H⟩
  ihave H' := (bigSep_pure_sep S (fun t => ∀ e ∈ A t, p e (fs t e)) (fun t => oLoc d ↦[A t]{fullShare} fs t)) $$ H
  icases H' with ⟨%hfs, H⟩
  ihave H' := (pointsTo_biUnion_join (ℓ := oLoc d) (q := fullShare) (Val := Elt F) S A fs f₀ h) $$ H
  icases H' with ⟨%g, %hg, Hg⟩
  iexists g
  isplitr
  · ipureintro
    intro e he
    obtain ⟨t, ht, het⟩ := Finset.mem_biUnion.mp he
    rw [hg t ht e het]; exact hfs t ht e het
  · iexact Hg

/-- The call's results, taken together: the whole array, every element as wanted. -/
theorem call_out (d : Dev nD) (f₀ : Buf (Elt F) (oLoc d)) :
    (bigSep Finset.univ fun c : Fin ((K (F := F)).nCore 0) => (P Q).dn 0 d c)
      ⊢ (iprop(∃ g : Buf (Elt F) (oLoc d), ⌜∀ e, Q.out d e (g e)⌝ ∗ oLoc d ↦{fullShare} g) : sProp 𝕄) := by
  change (bigSep Finset.univ fun c : Fin ((K (F := F)).nCore 0) => bigSep Finset.univ fun b : Fin 16 => TaskOut Q d (Fin.cast nCore_zero c) b) ⊢ _
  rw [bigSep_cores (F := F) (fun a => bigSep Finset.univ fun b : Fin 16 => TaskOut Q d a b)]
  have h : (bigSep Finset.univ fun a : Fin 2 => bigSep Finset.univ fun b : Fin 16 => TaskOut Q d a b)
      ⊢ bigSep Finset.univ fun a : Fin 2 => iprop(∃ g : Buf (Elt F) (oLoc d), ⌜∀ e ∈ coreSet a, Q.out d e (g e)⌝ ∗ oLoc d ↦[coreSet a]{fullShare} g) :=
    bigSep_mono fun a _ => (bigSep_mono fun b _ => pieces_join d (Q.out d) f₀ (Finset.range 52) (fun k => blkSet (blk (coordsV a b) k)) (blks_disjoint a b)).trans
      (pieces_join d (Q.out d) f₀ Finset.univ (fun b => taskSet a b) (tasks_disjoint a))
  refine (h.trans (pieces_join d (Q.out d) f₀ Finset.univ coreSet cores_disjoint)).trans ?_
  rw [cores_cover]
  iintro ⟨%g, %hg, Hg⟩
  iexists g
  isplitr
  · ipureintro; exact fun e => hg e (Finset.mem_univ e)
  · iexact Hg

/-! ## The launch element of the ghost state -/

/-- The regions' staging cells are pairwise distinct. -/
theorem cells_inj : Function.Injective (Pipeline.cellOf (nD := nD) (τ := τ) (Pipeline.pin (pcfgs (F := F)) adm)) := cellOf_inj

/-- The handshakes' and the regions' initial rounds, and no transfer under way. -/
def u₀ : UU := (initOf (K (F := F)).hsCells (K (F := F)).hsToks,
  (initOf (Pipeline.cells (nD := nD) (τ := τ) (Pipeline.pin (pcfgs (F := F)) adm) cells_inj) (Pipeline.launchToks (Pipeline.pin (pcfgs (F := F)) adm) cells_inj), 1))

/-- The regions' rounds and the transfers' counters, owned together, are owned apart. -/
theorem own_rounds (a : UP) (b : Counters) : (BI.own (embR (a, b) : MT nD τ sig (HIx 1) (Elt F) ℕ UU ℕ) : sProp 𝕄)
    ⊢ iprop(BI.own (EP a) ∗ BI.own (((Emb.inr : Emb Counters (UP × Counters)).trans (embR : Emb (UP × Counters) (MT nD τ sig (HIx 1) (Elt F) ℕ UU ℕ))) b)) :=
  own_pair_emb embR a b

/-- A run of nothing is nothing. -/
theorem bigSep_nothing {I : Type} (s : Finset I) : (bigSep s fun _ => iprop(emp)) = (iprop(emp) : sProp 𝕄) := bigSep_emp_const s

/-- What a device starts from besides its buffers: both regions' ghost state. -/
def deviceGhost (d : Dev nD) : sProp 𝕄 := bigSep Finset.univ fun p : Fin 2 => regionGhost (F := F) p d

/-- From it the handshakes start, and each device has its regions' ghost state. -/
theorem hu₀ : (ownU (u₀ (F := F)) : sProp 𝕄)
    ⊢ |={Set.univ}=> iprop(BI.own (EH (initOf (K (F := F)).hsCells (K (F := F)).hsToks)) ∗ (bigSep Finset.univ fun d : Dev nD => deviceGhost (F := F) d)
        ∗ bigSep Finset.univ fun thr : Thread nD τ => bigSep Finset.univ fun q : Fin 1 => (P Q).x q thr) := by
  unfold u₀
  iintro Hu
  ihave H := (ownU_pair (initOf (K (F := F)).hsCells (K (F := F)).hsToks) _) $$ Hu
  icases H with ⟨HH, HR⟩
  ihave H' := (own_rounds _ (1 : Counters)) $$ HR
  icases H' with ⟨HP, -⟩
  imod (Pipeline.fund_ghost (Pipeline.pin (pcfgs (F := F)) adm) EP cells_inj) $$ HP with ⟨Hg, Ht⟩
  imodintro
  isplitl [HH]; · iexact HH
  isplitl [Hg Ht]
  · unfold deviceGhost regionGhost
    iapply (show iprop((bigSep Finset.univ fun c : Dev nD => bigSep Finset.univ fun p => Pipeline.cellsGhost (Pipeline.pin (pcfgs (F := F)) adm) EP p c)
        ∗ (bigSep Finset.univ fun c : Dev nD => bigSep Finset.univ fun p => Pipeline.toksInit (Pipeline.pin (pcfgs (F := F)) adm) EP p c))
      ⊢ (bigSep Finset.univ fun d : Dev nD => bigSep Finset.univ fun p : Fin 2 => iprop(Pipeline.cellsGhost (Pipeline.pin (pcfgs (F := F)) adm) EP p d
        ∗ Pipeline.toksInit (Pipeline.pin (pcfgs (F := F)) adm) EP p d) : sProp 𝕄) from by
          simp only [bigSep_sep']; exact Entails.refl _)
    isplitl [Hg]; · iexact Hg
    iexact Ht
  rw [show (bigSep Finset.univ fun thr : Thread nD τ => bigSep Finset.univ fun q : Fin 1 => (P Q).x q thr) = bigSep Finset.univ fun _ => iprop(emp) from
    bigSep_congr fun _ _ => bigSep_univ_of_subsingleton (0 : Fin 1), bigSep_nothing]
  iempintro

end Cert.Proof.Run

end
-- ==== Proof.Body.lean ====
/-
  The bodies of the two TensorCore regions, each run once at any staging buffers: the packing body leaves the two table
  blocks side by side, the selecting body leaves the transposed half that each row's parity picks.
-/
module

public import proofs.«01_k».proof.Proof.Tasks

@[expose] public section

noncomputable section

namespace Cert.Proof.Run

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- A load of the whole of a whole buffer reads its contents. -/
theorem readAt_full {sp : Space} {s : Shape} {e : EltTy} (m : Memref sig .tc sp s e) (h : m.IsWhole) {off : Fin s.rank → ℕ}
    (hz : off = fun _ => 0) (inb : ∀ a, off a + s.size a ≤ s.size a) (f : m.view.ty.Contents (Elt F)) :
    m.view.readAt (Elt F) (Rect.unit off s.size inb).toLoadRect f = m.view.read (Elt F) f := by
  obtain ⟨b, rfl, rfl, rfl, hv⟩ := h
  obtain rfl := eq_of_heq hv
  exact Memref.readAt_unit_zero (Elt F) b hz inb f

/-- A store to the whole of a whole buffer leaves what it stores. -/
theorem read_write_full {sp : Space} {s : Shape} {e : EltTy} (m : Memref sig .tc sp s e) (h : m.IsWhole) {off : Fin s.rank → ℕ}
    (hz : off = fun _ => 0) (inb : ∀ a, off a + s.size a ≤ s.size a) (f : m.view.ty.Contents (Elt F)) (w : s.Idx → Elt F e) :
    m.view.read (Elt F) ((m.access (Rect.unit off s.size inb)).write (Elt F) f w Finset.univ) = w := by
  obtain ⟨b, rfl, rfl, rfl, hv⟩ := h
  obtain rfl := eq_of_heq hv
  exact Memref.write_access_unit_zero_univ (Elt F) b hz inb f w

variable [FloatOps F]

/-- The packing body: the result's buffer ends holding the two blocks transposed and put side by side. -/
theorem pack_body (c : Dev nD) (E : Set ℕ) (i : grid0.Coords) (arg1 : Memref sig .tc .vmem S64x16384 .f32) (harg1 : arg1.IsWhole)
    (arg2 : Memref sig .tc .vmem S64x16384 .f32) (harg2 : arg2.IsWhole) (arg3 : Memref sig .tc .vmem S16384x128 .f32) (harg3 : arg3.IsWhole)
    (X0 X1 : S64x16384.Idx → Elt F .f32) (X2 : S16384x128.Idx → Elt F .f32) (Φ : PUnit → sProp 𝕄) :
    iprop((owns (c.tc : Thread nD τ) arg1 fullShare X0 ∗ owns (c.tc : Thread nD τ) arg2 fullShare X1 ∗ owns (c.tc : Thread nD τ) arg3 fullShare X2)
        ∗ (iprop(owns (c.tc : Thread nD τ) arg1 fullShare X0 ∗ owns (c.tc : Thread nD τ) arg2 fullShare X1
            ∗ owns (c.tc : Thread nD τ) arg3 fullShare (k0_pay1 X0 X1)) -∗ Φ ⟨⟩))
      ⊢ wp frame (wpE (defs₀ (F := F)) 𝒱₀ (c.tc : Thread nD τ) none) E (cc0__pack_pairs_body i arg1 harg1 arg2 harg2 arg3 harg3) Φ := by
  have hz : (![0, 0] : Fin 2 → ℕ) = fun _ => 0 := funext fun a => by fin_cases a <;> rfl
  rw [cc0__pack_pairs_body_eq_skeleton]; unfold cc0__pack_pairs_body_skel owns
  simp only [Prog.lift, Prog.bind_op, Prog.bind_ret, harg1.set_eq_univ, harg2.set_eq_univ, harg3.set_eq_univ]
  iintro ⟨⟨⟨%f0, %hf0, H0⟩, ⟨%f1, %hf1, H1⟩, ⟨%f2, %hf2, H2⟩⟩, Hk⟩
  sl_steps
  iapply Hk
  rw [readAt_full arg1 harg1 hz, readAt_full arg2 harg2 hz, hf0, hf1]
  isplitl [H0]
  · iexists f0; isplitr; · ipureintro; exact hf0
    iexact H0
  isplitl [H1]
  · iexists f1; isplitr; · ipureintro; exact hf1
    iexact H1
  · iexists _; isplitr
    rotate_left
    · iexact H2
    · ipureintro; exact read_write_full arg3 harg3 hz _ f2 _

/-- The selecting body: the result's buffer ends holding what the body computes of the block of rows and of the parities. -/
theorem select_body (c : Dev nD) (E : Set ℕ) (i : grid2.Coords) (arg2 : Memref sig .tc .vmem S1x16384x128 .f32) (harg2 : arg2.IsWhole)
    (arg3 : Memref sig .tc .vmem S1x1x16384 .i32) (harg3 : arg3.IsWhole) (arg4 : Memref sig .tc .vmem S1x64x16384 .f32) (harg4 : arg4.IsWhole)
    (X0 : S1x16384x128.Idx → Elt F .f32) (X1 : S1x1x16384.Idx → Elt F .i32) (X2 : S1x64x16384.Idx → Elt F .f32) (Φ : PUnit → sProp 𝕄) :
    iprop((owns (c.tc : Thread nD τ) arg2 fullShare X0 ∗ owns (c.tc : Thread nD τ) arg3 fullShare X1 ∗ owns (c.tc : Thread nD τ) arg4 fullShare X2)
        ∗ (iprop(owns (c.tc : Thread nD τ) arg2 fullShare X0 ∗ owns (c.tc : Thread nD τ) arg3 fullShare X1
            ∗ owns (c.tc : Thread nD τ) arg4 fullShare (k2_pay1 X0 X1)) -∗ Φ ⟨⟩))
      ⊢ wp frame (wpE (defs₀ (F := F)) 𝒱₀ (c.tc : Thread nD τ) none) E (cc2__select_transpose_body i arg2 harg2 arg3 harg3 arg4 harg4) Φ := by
  have hz : (![0, 0, 0] : Fin 3 → ℕ) = fun _ => 0 := funext fun a => by fin_cases a <;> rfl
  rw [cc2__select_transpose_body_eq_skeleton]; unfold cc2__select_transpose_body_skel owns
  simp only [Prog.lift, Prog.bind_op, Prog.bind_ret, harg2.set_eq_univ, harg3.set_eq_univ, harg4.set_eq_univ]
  iintro ⟨⟨⟨%f0, %hf0, H0⟩, ⟨%f1, %hf1, H1⟩, ⟨%f2, %hf2, H2⟩⟩, Hk⟩
  sl_steps
  iapply Hk
  rw [readAt_full arg2 harg2 hz, readAt_full arg3 harg3 hz, hf0, hf1]
  isplitl [H0]
  · iexists f0; isplitr; · ipureintro; exact hf0
    iexact H0
  isplitl [H1]
  · iexists f1; isplitr; · ipureintro; exact hf1
    iexact H1
  · iexists _; isplitr
    rotate_left
    · iexact H2
    · ipureintro; exact read_write_full arg4 harg4 hz _ f2 _

end Cert.Proof.Run

end
-- ==== Proof.Region.lean ====
/-
  A TensorCore region of the launch: a pipelined call entered from its windows' arrays while the TensorCore still owes the
  SparseCore calls to come, and left with the arrays at what the region's relation says of them.
-/
module

public import proofs.«01_k».proof.Proof.Body
public import Idealize.ShloMosaic.Lib.Pipeline.RegionArrays

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- What the TensorCore of `d` owes after `n` calls, with waits recorded at the levels passed so far. -/
def owed (d : Dev nD) (n : ℕ) : sProp 𝕄 :=
  iprop(∃ W, ⌜(K (F := F)).WBelow (T d) W (8 * n)⌝ ∗ owes (T d) ((K (F := F)).Otc d n) W)

/-- The waits that the TensorCore of `d` may have recorded after `n` calls. -/
abbrev recorded (d : Dev nD) (n : ℕ) : Set (SemLoc sig × HIx 1) :=
  {p | (K (F := F)).lev (T d, p.1) p.2 ≤ 8 * n}

/-- Relational data of both regions, on every device. -/
abbrev RegionData (F : FTy → Type) : Type :=
  (p : Fin 2) → (d : Dev nD) → Pipeline.RDat τ (Elt F) (HIx 1) ℕ UU ℕ (Pipeline.pin (pcfgs (F := F)) adm p) d

variable [FloatOps F]

/-- Region `p` after `n` calls: what it is entered from and what it leaves, its arrays aside, is what the TensorCore owes. -/
def region (rd : RegionData F) (p : Fin 2) (n : ℕ) (win : Pipeline.WinFacts₀ ((pcfgs (F := F)) p).spec)
    (block_pos : ∀ w : Fin (Pipeline.pin (pcfgs (F := F)) adm p).W, 0 < ((Pipeline.pin (pcfgs (F := F)) adm p).spec w).block.numel)
    (stage_whole : ∀ (w : Fin (Pipeline.pin (pcfgs (F := F)) adm p).W) (s : Fin ((Pipeline.pin (pcfgs (F := F)) adm p).spec w).nbuf),
      (((Pipeline.pin (pcfgs (F := F)) adm p).spec w).stage s).IsWhole)
    (hK : (pcfgs (F := F) p).pre.K = 0)
    (hbody : ∀ d, (rd p d).BodyObligation defs₀ 𝒱₀ none Set.univ)
    (howed : ∀ d t, (rd p d).owed t = (K (F := F)).Otc d n) (hrec : ∀ d t, (rd p d).recorded t = recorded (F := F) d n)
    (hΦ : ∀ d t, (rd p d).Φ t = Pipeline.scopedRest (Pipeline.pin (pcfgs (F := F)) adm p).spec d) :
    Pipeline.RDat.RegionSeg (pcfgs (F := F)) adm rd none defs₀ 𝒱₀ (K (F := F)).L (K (F := F)).lev p where
  win := win
  block_pos := block_pos
  stage_whole := stage_whole
  K := PEmpty
  osem k := k.elim
  ho := Pipeline.OwnSemFacts.none _
  hbody := hbody
  hwaits d := Pipeline.RDat.cellsWaits_of_cut (Pipeline.pin (pcfgs (F := F)) adm) rd none p d 0 ((K (F := F)).Otc d n) (howed d)
    (fun _ _ => Finset.mem_univ _) (fun _ _ => le_refl 0)
    (fun _ _ h => ⟨Finset.mem_univ _, lt_of_lt_of_le (Nat.succ_pos _) (SparseCore.Cfg.lev_of_Otc_pos h)⟩)
  pre d := iprop((rd p d).arrays (rd p d).A ∗ owed (F := F) d n)
  post d := iprop((rd p d).arraysAt (Pipeline.pin (pcfgs (F := F)) adm p).N ∗ owed (F := F) d n)
  X _ := iprop(emp)
  Y _ := iprop(emp)
  Z _ := iprop(emp)
  hentry d := by
    rw [Pipeline.ownSems0_none, Pipeline.prefHeld_of_none _ hK]
    unfold owed Pipeline.RDat.owesAt Pipeline.owesWithin Pipeline.RDat.bound
    rw [howed d 0, hrec d 0]
    iintro ⟨⟨Ha, ⟨%W, %hW, HO⟩⟩, -, -⟩
    imodintro
    isplitl [Ha]; · iexact Ha
    isplitr; · iempintro
    isplitl [HO]
    · iexists W
      isplitr
      · ipureintro; exact fun p hp => Or.inl (hW p hp)
      · iexact HO
    isplitr <;> iempintro
  hin d := by
    rw [hΦ d 0]
    iintro ⟨-, -, H⟩; iexact H
  hout d := by
    rw [hΦ d, Pipeline.ownSems0_none]
    iintro H
    isplitr; · iempintro
    isplitr; · iempintro
    iexact H
  hexit d := by
    unfold owed Pipeline.RDat.owesAt Pipeline.owesWithin Pipeline.RDat.bound
    rw [howed d, hrec d]
    iintro ⟨Ha, ⟨%W, %hW, HO⟩, -, -⟩
    imodintro
    isplitl [Ha]; · iexact Ha
    iexists W
    isplitr
    · ipureintro
      intro p hp
      rcases hW hp with h | ⟨w, s, rfl⟩
      · exact h
      · exact Nat.zero_le _
    · iexact HO

/-- The statement of `@main` that runs region `p`, from the region's arrays and its ghost state. -/
theorem wp_region [∀ e, Nonempty (Elt F e)] (rd : RegionData F) (p : Fin 2) (n : ℕ) (win : Pipeline.WinFacts₀ ((pcfgs (F := F)) p).spec)
    (block_pos : ∀ w : Fin (Pipeline.pin (pcfgs (F := F)) adm p).W, 0 < ((Pipeline.pin (pcfgs (F := F)) adm p).spec w).block.numel)
    (stage_whole : ∀ (w : Fin (Pipeline.pin (pcfgs (F := F)) adm p).W) (s : Fin ((Pipeline.pin (pcfgs (F := F)) adm p).spec w).nbuf),
      (((Pipeline.pin (pcfgs (F := F)) adm p).spec w).stage s).IsWhole)
    (hK : (pcfgs (F := F) p).pre.K = 0)
    (hbody : ∀ d, (rd p d).BodyObligation defs₀ 𝒱₀ none Set.univ)
    (howed : ∀ d t, (rd p d).owed t = (K (F := F)).Otc d n) (hrec : ∀ d t, (rd p d).recorded t = recorded (F := F) d n)
    (hΦ : ∀ d t, (rd p d).Φ t = Pipeline.scopedRest (Pipeline.pin (pcfgs (F := F)) adm p).spec d)
    (d : Dev nD) (Φ : PUnit → sProp 𝕄) :
    iprop(levAts (K (F := F)).L (K (F := F)).lev ∗ boundary (T d) ∗ (rd p d).arrays (rd p d).A ∗ owed (F := F) d n ∗ regionGhost (F := F) p d
        ∗ ((boundary (T d) ∗ (rd p d).arraysAt (Pipeline.pin (pcfgs (F := F)) adm p).N ∗ owed (F := F) d n) -∗ Φ ⟨⟩))
      ⊢ wp frame (wpE ((K (F := F)).defs D) 𝒱 (T d) none) Set.univ (Prog.lift (.customCall (SparseCore.inner (Pipeline.entry p)) ())) Φ := by
  refine BIBase.Entails.trans ?_ ((K (F := F)).wp_liftProg D 𝒱 (T d) Set.univ none (.op (.customCall (Pipeline.entry p) ()) .ret) Φ)
  refine BIBase.Entails.trans ?_ (Pipeline.RDat.RegionSeg.wp (pcfgs (F := F)) adm rd none cells_inj EP defs₀ 𝒱₀ (K (F := F)).L (K (F := F)).lev
    (region rd p n win block_pos stage_whole hK hbody howed hrec hΦ) d none (fun u hu => nomatch hu) .ret Φ)
  unfold regionGhost
  iintro ⟨#HL, Hb, Ha, HO, ⟨Hg, Ht⟩, Hk⟩
  isplitl [Hk]
  · iintro ⟨Hb, Hp⟩
    rw [wp_ret]
    imodintro
    iapply Hk
    ihave Hp' := (show (region rd p n win block_pos stage_whole hK hbody howed hrec hΦ).post d
      ⊢ iprop((rd p d).arraysAt (Pipeline.pin (pcfgs (F := F)) adm p).N ∗ owed (F := F) d n) from .rfl) $$ Hp
    isplitl [Hb]; · iexact Hb
    iexact Hp'
  isplitl [Hb]; · iexact Hb
  isplitl [Ha HO]
  · ihave Hp := (show iprop((rd p d).arrays (rd p d).A ∗ owed (F := F) d n)
      ⊢ (region rd p n win block_pos stage_whole hK hbody howed hrec hΦ).pre d from .rfl) $$ [Ha HO]
    · isplitl [Ha]; · iexact Ha
      iexact HO
    iexact Hp
  isplitr; · iexact HL
  isplitl [Hg]; · iexact Hg
  iexact Ht

end Cert.Proof.Run

end
-- ==== Proof.Payload.lean ====
/-
  What the two TensorCore bodies compute, element by element; and what a fetch brings into a staging buffer, element by
  element, inside the array's bounds.
-/
module

public import proofs.«01_k».proof.Proof.Body
public import Idealize.ShloMosaic.Lib.Pipeline.Value
public import Idealize.ShloMosaic.Lib.WordCmp

@[expose] public section

noncomputable section

namespace Cert.Proof.Run

open Cert.KernelIdeal Cert.KernelIdeal.Gen
open Idealize.ShloMosaic

variable {F : FTy → Type}

/-! ## What a fetch brings -/

/-- After a fetch, an element of the staging buffer whose place in the array lies inside the array holds the array's
    element there, whatever the buffer held before and however the block overhangs the array. -/
theorem fetch_apply {G : Pipeline.Grid} (w : Pipeline.Window sig G) (hk : w.kind = .blocked) (t : Fin G.N) {Val : EltTy → Type}
    (d : w.block.Idx → Val w.elt) (A : w.arr.view.ty.Contents Val) (j : w.block.Idx) (k : w.shape.Idx)
    (h : ∀ a, (k a).val = w.index t a * w.size a + (j a).val) :
    w.fill (G.coords t) d ((w.blk t).view.read Val A) j = w.arr.view.read Val A k := by
  have hm : ∀ a, (j a).val < w.xsize (G.coords t) a := by
    intro a
    have hc := w.hclip (G.coords t) a
    have hj : (j a).val < w.size a := (j a).isLt
    have hd : (k a).val < w.shape.size a := (k a).isLt
    have hi : w.index t a = w.indexMap (G.coords t) a := rfl
    rw [hk] at hc
    unfold Pipeline.Window.xsize
    generalize hcc : w.clip (G.coords t) a = cc at hc
    cases cc with
    | none => exact hj
    | some n =>
      have h3 : w.indexMap (G.coords t) a * w.size a + n = w.shape.size a := hc.2.2
      have h4 := h a
      rw [hi] at h4
      show (j a).val < n
      omega
  obtain ⟨y, rfl⟩ : ∃ y : (w.xblock (G.coords t)).Idx, j = w.xinj (G.coords t) y := ⟨fun a => ⟨(j a).val, hm a⟩, rfl⟩
  rw [w.fill_xinj]
  have hy : (w.rect t).emb y = k := funext fun a => Fin.ext (by rw [w.rect_emb_val t y a hk]; exact (h a).symm)
  rw [← hy]
  rfl

/-! ## The packing body -/

/-- The left half of what the packing body leaves is the first block transposed. -/
theorem k0_pay1_left (X0 X1 : S64x16384.Idx → F .f32) (y : S16384x128.Idx) (k : S64x16384.Idx) (h0 : (k 0).val = (y 1).val)
    (h1 : (k 1).val = (y 0).val) : k0_pay1 X0 X1 y = X0 k := by
  unfold k0_pay1
  dsimp only
  let z : S16384x64.Idx := fun | 0 => ⟨(k 1).val, (k 1).isLt⟩ | 1 => ⟨(k 0).val, (k 0).isLt⟩
  refine (concatenate_pair_apply_left (t := S16384x128) (s₁ := S16384x64) (s₂ := S16384x64) 1 _ _ _ y rfl z fun b => ?_).trans ?_
  · match b with
    | 0 => exact h1
    | 1 => exact h0
  refine (transpose_apply _ _ _ z k fun b => ?_).trans ?_
  · match b with
    | 0 => rfl
    | 1 => rfl
  rw [shapeCast_self]

/-- The right half is the second block transposed. -/
theorem k0_pay1_right (X0 X1 : S64x16384.Idx → F .f32) (y : S16384x128.Idx) (k : S64x16384.Idx) (h0 : (k 0).val + 64 = (y 1).val)
    (h1 : (k 1).val = (y 0).val) : k0_pay1 X0 X1 y = X1 k := by
  unfold k0_pay1
  dsimp only
  let z : S16384x64.Idx := fun | 0 => ⟨(k 1).val, (k 1).isLt⟩ | 1 => ⟨(k 0).val, (k 0).isLt⟩
  refine (concatenate_pair_apply_right (t := S16384x128) (s₁ := S16384x64) (s₂ := S16384x64) 1 _ _ _ y rfl rfl z (fun b hb => ?_) h0).trans ?_
  · match b with
    | 0 => exact h1
    | 1 => exact absurd rfl hb
  refine (transpose_apply _ _ _ z k fun b => ?_).trans ?_
  · match b with
    | 0 => rfl
    | 1 => rfl
  rw [shapeCast_self]

/-! ## The selecting body -/

/-- What the selecting body leaves at `y`: the block's row `y 2`, its right half where the row's parity is one, else its left. -/
theorem k2_pay1_apply (X0 : S1x16384x128.Idx → F .f32) (X1 : S1x1x16384.Idx → BitVec 32) (y : S1x64x16384.Idx) (k : S1x1x16384.Idx)
    (j : S1x16384x128.Idx) (hk : (k 2).val = (y 2).val) (hj : (j 1).val = (y 2).val)
    (h : (X1 k = 1#32 ∧ (j 2).val = (y 1).val + 64) ∨ (X1 k ≠ 1#32 ∧ (j 2).val = (y 1).val)) : k2_pay1 X0 X1 y = X0 j := by
  unfold k2_pay1
  dsimp only
  have y0 : (y 0).val = 0 := Nat.lt_one_iff.mp (y 0).isLt
  have k0 : (k 0).val = 0 := Nat.lt_one_iff.mp (k 0).isLt
  have k1 : (k 1).val = 0 := Nat.lt_one_iff.mp (k 1).isLt
  have j0 : (j 0).val = 0 := Nat.lt_one_iff.mp (j 0).isLt
  let z : S64x16384.Idx := fun | 0 => ⟨(y 1).val, (y 1).isLt⟩ | 1 => ⟨(y 2).val, (y 2).isLt⟩
  let q : S1x16384.Idx := fun | 0 => ⟨0, Nat.one_pos⟩ | 1 => ⟨(y 2).val, (y 2).isLt⟩
  let p : S16384x128.Idx := fun | 0 => ⟨(j 1).val, (j 1).isLt⟩ | 1 => ⟨(j 2).val, (j 2).isLt⟩
  let p' : S128x16384.Idx := fun | 0 => ⟨(j 2).val, (j 2).isLt⟩ | 1 => ⟨(j 1).val, (j 1).isLt⟩
  have hz : ((S64x16384.rowMajor z).val) = (S1x64x16384.rowMajor y).val := by
    rw [Shape.rowMajor_val_two, Shape.rowMajor_val_three, y0]
    show (y 1).val * 16384 + (y 2).val = (0 * 64 + (y 1).val) * 16384 + (y 2).val
    omega
  refine (shapeCast_apply _ _ y z hz).trans ?_
  have hc : broadcastTo S64x16384 (shapeCast S1x16384 (cmpi .eq (shapeCast S1x16384 X1 shapeCasts_S1x1x16384_S1x16384) (broadcast S1x16384 1#32))
      shapeCasts_S1x16384_S1x16384) broadcasts_S1x16384_S64x16384 z = Scalar.cmpi .eq (X1 k) 1#32 := by
    refine (broadcastTo_apply _ _ z q fun a => ?_).trans ?_
    · match a with
      | 0 => rfl
      | 1 => rfl
    rw [shapeCast_self]
    show Scalar.cmpi .eq (shapeCast S1x16384 X1 shapeCasts_S1x1x16384_S1x16384 q) 1#32 = _
    congr 1
    refine shapeCast_apply _ _ q k ?_
    rw [Shape.rowMajor_val_two, Shape.rowMajor_val_three, k0, k1, hk]
    show (0 * 1 + 0) * 16384 + (y 2).val = 0 * 16384 + (y 2).val
    omega
  have hp : transpose S128x16384 [1, 0] (shapeCast S16384x128 X0 shapeCasts_S1x16384x128_S16384x128) transposes_S16384x128_p1_0_S128x16384 p' = X0 j := by
    refine (transpose_apply _ _ _ p' p fun b => ?_).trans ?_
    · match b with
      | 0 => rfl
      | 1 => rfl
    refine shapeCast_apply _ _ p j ?_
    rw [Shape.rowMajor_val_two, Shape.rowMajor_val_three, j0]
    show (0 * 16384 + (j 1).val) * 128 + (j 2).val = (j 1).val * 128 + (j 2).val
    omega
  unfold select
  rw [hc]
  rcases h with ⟨h, hj2⟩ | ⟨h, hj2⟩
  · rw [show Scalar.cmpi .eq (X1 k) 1#32 = 1#1 by rw [h]; rfl]
    rw [WordCmp.select_one]
    refine Eq.trans ?_ hp
    refine extractStridedSlice_apply _ _ _ z p' fun a => ?_
    match a with
    | 0 => show (j 2).val = 64 + (y 1).val; omega
    | 1 => show (j 1).val = 0 + (y 2).val; omega
  · rw [show Scalar.cmpi .eq (X1 k) 1#32 = 0#1 by show IntOp.cmpi .eq (X1 k) 1#32 = 0#1; rw [WordCmp.cmpi_eq_eq, decide_eq_false h]; rfl]
    rw [WordCmp.select_zero]
    refine Eq.trans ?_ hp
    refine extractStridedSlice_apply _ _ _ z p' fun a => ?_
    match a with
    | 0 => show (j 2).val = 0 + (y 1).val; omega
    | 1 => show (j 1).val = 0 + (y 2).val; omega

end Cert.Proof.Run

end
-- ==== Proof.Arrays.lean ====
/-
  The two TensorCore regions' arrays. The packing region leaves, in row `r` of the packed table, the table's row `r` in the
  left half and the table's row `r + 524288` in the right half, where there is one. The selecting region leaves, for each
  place, the half of the gathered row that the place's parity picks.
-/
module

public import proofs.«01_k».proof.Proof.Region
public import proofs.«01_k».proof.Proof.Payload
public import proofs.«01_k».proof.Proof.Gen.KernelIdeal.Points
public import Idealize.ShloMosaic.Lib.Pipeline.ArrRel

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## What the arrays hold -/

/-- `v` is what the packed table of the transposed table `x` may hold at row `r`, column `c`. -/
def packedOK (x : S64x1000000.Idx → F .f32) (r c : ℕ) (v : F .f32) : Prop :=
  ∀ k : S64x1000000.Idx, ((k 0).val = c ∧ (k 1).val = r) ∨ ((k 0).val + 64 = c ∧ (k 1).val = r + 524288) → v = x k

/-- `v` is the half of the gathered row of place (`a`, `b`), at column `e`, that the place's parity picks. -/
def pickedOK (x : S26x16384x128.Idx → F .f32) (p : S26x1x16384.Idx → BitVec 32) (a e b : ℕ) (v : F .f32) : Prop :=
  ∀ (k : S26x1x16384.Idx) (j : S26x16384x128.Idx), (k 0).val = a → (k 2).val = b → (j 0).val = a → (j 1).val = b →
    ((p k = 1#32 ∧ (j 2).val = e + 64) ∨ (p k ≠ 1#32 ∧ (j 2).val = e)) → v = x j

/-! ## The regions' data -/

/-- The packing region: the table is read through two windows, the packed table is written. -/
def packData (x : S64x1000000.Idx → F .f32) (f : S524288x128.Idx → F .f32) (d : Dev nD) : Pipeline.RDat τ (Elt F) (HIx 1) ℕ UU ℕ cfg0 d where
  A w := match w with | ⟨0, _⟩ => x | ⟨1, _⟩ => x | ⟨2, _⟩ => f
  after w t Y X := match w with
    | ⟨0, _⟩ => X = Y
    | ⟨1, _⟩ => X = Y
    | ⟨2, _⟩ => ∀ y : S16384x128.Idx, packedOK x (16384 * t.val + (y 0).val) (y 1).val (X y)
  Φ _ := Pipeline.scopedRest (Pipeline.pin (pcfgs (F := F)) adm 0).spec d
  q w := match w with | ⟨0, _⟩ => fullShare.left | ⟨1, _⟩ => fullShare.right | ⟨2, _⟩ => fullShare
  owed _ := (K (F := F)).Otc d 0
  recorded _ := recorded (F := F) d 0

/-- The selecting region: the gathered rows and the parities are read, the result is written. -/
def selectData (x : S26x16384x128.Idx → F .f32) (p : S26x1x16384.Idx → BitVec 32) (f : S26x64x16384.Idx → F .f32) (d : Dev nD) :
    Pipeline.RDat τ (Elt F) (HIx 1) ℕ UU ℕ cfg2 d where
  A w := match w with | ⟨0, _⟩ => x | ⟨1, _⟩ => p | ⟨2, _⟩ => f
  after w t Y X := match w with
    | ⟨0, _⟩ => X = Y
    | ⟨1, _⟩ => X = Y
    | ⟨2, _⟩ => ∀ y : S1x64x16384.Idx, pickedOK x p t.val (y 1).val (y 2).val (X y)
  Φ _ := Pipeline.scopedRest (Pipeline.pin (pcfgs (F := F)) adm 1).spec d
  q _ := fullShare
  owed _ := (K (F := F)).Otc d 1
  recorded _ := recorded (F := F) d 1

/-- Both regions' data. -/
def data (x : S64x1000000.Idx → F .f32) (f : S524288x128.Idx → F .f32) (g : S26x16384x128.Idx → F .f32) (p : S26x1x16384.Idx → BitVec 32)
    (h : S26x64x16384.Idx → F .f32) : RegionData F := fun
  | 0 => packData x f
  | 1 => selectData g p h

/-! ## What the fetches bring -/

/-- The grid's points by their coordinate. -/
theorem coord0 (t : Fin grid0.N) : (grid0.coords t 0).val = t.val := by revert t; decide +kernel
theorem coord2 (t : Fin grid2.N) : (grid2.coords t 0).val = t.val ∧ (grid2.coords t 1).val = 0 := by revert t; decide +kernel

theorem index0_0 (t : Fin grid0.N) : win0_0.index t 0 = 0 ∧ win0_0.index t 1 = t.val := by revert t; decide +kernel
theorem index0_1 (t : Fin grid0.N) : win0_1.index t 0 = 0 ∧ (t.val < 30 → win0_1.index t 1 = t.val + 32) := by revert t; decide +kernel
/-- The second window is fetched at each of the first thirty points. -/
theorem fetch0_1 : ∀ t : Fin cfg0.N, t.val < 30 → (cfg0.win 1).fetch t = true :=
  (by decide +kernel : ∀ t : Fin grid0.N, t.val < 30 → win0_1.fetch t = true)
theorem index0_2 (t : Fin grid0.N) : win0_2.index t 0 = t.val ∧ win0_2.index t 1 = 0 := by revert t; decide +kernel
theorem index2_0 (t : Fin grid2.N) : win2_0.index t 0 = t.val ∧ win2_0.index t 1 = 0 ∧ win2_0.index t 2 = 0 := by revert t; decide +kernel
theorem index2_1 (t : Fin grid2.N) : win2_1.index t 0 = t.val ∧ win2_1.index t 1 = 0 ∧ win2_1.index t 2 = 0 := by revert t; decide +kernel
theorem index2_2 (t : Fin grid2.N) : win2_2.index t 0 = t.val ∧ win2_2.index t 1 = 0 ∧ win2_2.index t 2 = 0 := by revert t; decide +kernel

variable (x : S64x1000000.Idx → F .f32) (f : S524288x128.Idx → F .f32) (d : Dev nD)

/-- The first window's staging buffer holds the table's block `t`. -/
theorem finds0_0 (t : Fin cfg0.N) (Y : S64x16384.Idx → F .f32) (h : (packData x f d).Finds (0 : Fin 3) t Y) (j : S64x16384.Idx)
    (k : S64x1000000.Idx) (h0 : (k 0).val = (j 0).val) (h1 : (k 1).val = 16384 * t.val + (j 1).val) : Y j = x k := by
  obtain ⟨e, rfl⟩ := ((packData x f d).finds_of_fetch (fetch0_0 t) Y).mp h
  refine fetch_apply win0_0 rfl t e x j k fun a => ?_
  obtain ⟨i0, i1⟩ := index0_0 t
  match a with
  | ⟨0, _⟩ => show (k 0).val = win0_0.index t 0 * 64 + (j 0).val; rw [i0]; omega
  | ⟨1, _⟩ => show (k 1).val = win0_0.index t 1 * 16384 + (j 1).val; rw [i1]; omega

/-- The second window's staging buffer holds the table's block `t + 32`, where the table reaches. -/
theorem finds0_1 (t : Fin cfg0.N) (Y : S64x16384.Idx → F .f32) (h : (packData x f d).Finds (1 : Fin 3) t Y) (j : S64x16384.Idx)
    (k : S64x1000000.Idx) (h0 : (k 0).val = (j 0).val) (h1 : (k 1).val = 16384 * (t.val + 32) + (j 1).val) : Y j = x k := by
  have hk : (k 1).val < 1000000 := (k 1).isLt
  have ht : t.val < 30 := by omega
  have e0 : (k 0).val = 0 * 64 + (j 0).val := by rw [h0, Nat.zero_mul, Nat.zero_add]
  have e1 : (k 1).val = (t.val + 32) * 16384 + (j 1).val := by rw [h1, Nat.mul_comm]
  obtain ⟨i0, i1⟩ := index0_1 t
  have i1 := i1 ht
  obtain ⟨e, rfl⟩ := ((packData x f d).finds_of_fetch (fetch0_1 t ht) Y).mp h
  refine fetch_apply win0_1 rfl t e x j k fun a => ?_
  match a with
  | ⟨0, _⟩ => show (k 0).val = win0_1.index t 0 * 64 + (j 0).val; rw [i0]; exact e0
  | ⟨1, _⟩ => show (k 1).val = win0_1.index t 1 * 16384 + (j 1).val; rw [i1]; exact e1

variable (g : S26x16384x128.Idx → F .f32) (p : S26x1x16384.Idx → BitVec 32) (r : S26x64x16384.Idx → F .f32)

/-- The rows' staging buffer holds the rows' block `t`. -/
theorem finds2_0 (t : Fin cfg2.N) (Y : S1x16384x128.Idx → F .f32) (h : (selectData g p r d).Finds (0 : Fin 3) t Y) (j : S1x16384x128.Idx)
    (k : S26x16384x128.Idx) (h0 : (k 0).val = t.val) (h1 : (k 1).val = (j 1).val) (h2 : (k 2).val = (j 2).val) : Y j = g k := by
  obtain ⟨e, rfl⟩ := ((selectData g p r d).finds_of_fetch (fetch2_0 t) Y).mp h
  refine fetch_apply win2_0 rfl t e g j k fun a => ?_
  obtain ⟨i0, i1, i2⟩ := index2_0 t
  have j0 : (j 0).val < 1 := (j 0).isLt
  match a with
  | ⟨0, _⟩ => show (k 0).val = win2_0.index t 0 * 1 + (j 0).val; rw [i0]; omega
  | ⟨1, _⟩ => show (k 1).val = win2_0.index t 1 * 16384 + (j 1).val; rw [i1]; omega
  | ⟨2, _⟩ => show (k 2).val = win2_0.index t 2 * 128 + (j 2).val; rw [i2]; omega

/-- The parities' staging buffer holds the parities' block `t`. -/
theorem finds2_1 (t : Fin cfg2.N) (Y : S1x1x16384.Idx → BitVec 32) (h : (selectData g p r d).Finds (1 : Fin 3) t Y) (j : S1x1x16384.Idx)
    (k : S26x1x16384.Idx) (h0 : (k 0).val = t.val) (h2 : (k 2).val = (j 2).val) : Y j = p k := by
  obtain ⟨e, rfl⟩ := ((selectData g p r d).finds_of_fetch (fetch2_1 t) Y).mp h
  refine fetch_apply (Val := Elt F) win2_1 rfl t e p j k fun a => ?_
  obtain ⟨i0, i1, i2⟩ := index2_1 t
  have j0 : (j 0).val < 1 := (j 0).isLt
  have j1 : (j 1).val < 1 := (j 1).isLt
  have k1 : (k 1).val < 1 := (k 1).isLt
  match a with
  | ⟨0, _⟩ => show (k 0).val = win2_1.index t 0 * 1 + (j 0).val; rw [i0]; omega
  | ⟨1, _⟩ => show (k 1).val = win2_1.index t 1 * 1 + (j 1).val; rw [i1]; omega
  | ⟨2, _⟩ => show (k 2).val = win2_1.index t 2 * 16384 + (j 2).val; rw [i2]; omega

/-! ## The bodies' obligations -/

variable [FloatOps F]

/-- The packing body leaves a block of the packed table. -/
theorem pack_obligation : (packData x f d).BodyObligation (defs₀ (F := F)) 𝒱₀ none Set.univ := by
  intro t Y hY
  rw [bigSep_W0, bigSep_W0]
  rw [show (packData x f d).Φ t.succ = (packData x f d).Φ t.castSucc from rfl,
    show (packData x f d).owesAt none t.succ = (packData x f d).owesAt none t.castSucc from rfl]
  iintro ⟨HΦ, Ho, H0, H1, H2⟩
  iapply (pack_body (F := F) d Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (Y (0 : Fin 3)) (Y (1 : Fin 3)) (Y (2 : Fin 3)) _)
  isplitl [H0 H1 H2]
  · isplitl [H0]; · iexact H0
    isplitl [H1]; · iexact H1
    iexact H2
  iintro ⟨H0, H1, H2⟩
  isplitl [HΦ]; · iexact HΦ
  isplitl [Ho]; · iexact Ho
  isplitl [H0]
  · iexists (Y (0 : Fin 3)); isplitr; · ipureintro; rfl
    iexact H0
  isplitl [H1]
  · iexists (Y (1 : Fin 3)); isplitr; · ipureintro; rfl
    iexact H1
  iexists (k0_pay1 (Y (0 : Fin 3)) (Y (1 : Fin 3)))
  isplitr
  · ipureintro
    intro y k hk
    rcases hk with ⟨h0, h1⟩ | ⟨h0, h1⟩
    · let j : S64x16384.Idx := fun | 0 => ⟨(k 0).val, (k 0).isLt⟩ | 1 => ⟨(y 0).val, (y 0).isLt⟩
      exact (k0_pay1_left _ _ y j h0 rfl).trans (finds0_0 x f d t _ (hY (0 : Fin 3)) j k rfl h1)
    · let j : S64x16384.Idx := fun | 0 => ⟨(k 0).val, (k 0).isLt⟩ | 1 => ⟨(y 0).val, (y 0).isLt⟩
      exact (k0_pay1_right _ _ y j h0 rfl).trans (finds0_1 x f d t _ (hY (1 : Fin 3)) j k rfl (by show (k 1).val = 16384 * (t.val + 32) + (y 0).val; omega))
  · iexact H2

/-- The selecting body leaves a block of the result. -/
theorem select_obligation : (selectData g p r d).BodyObligation (defs₀ (F := F)) 𝒱₀ none Set.univ := by
  intro t Y hY
  rw [bigSep_W2, bigSep_W2]
  rw [show (selectData g p r d).Φ t.succ = (selectData g p r d).Φ t.castSucc from rfl,
    show (selectData g p r d).owesAt none t.succ = (selectData g p r d).owesAt none t.castSucc from rfl]
  iintro ⟨HΦ, Ho, H0, H1, H2⟩
  iapply (select_body (F := F) d Set.univ (grid2.coords t) (win2_0.stage (cfg2.slots t 0)) (hstage2_0 ((cfg2.slots t 0).cast nbuf2_0))
    (win2_1.stage (cfg2.slots t 1)) (hstage2_1 ((cfg2.slots t 1).cast nbuf2_1)) (win2_2.stage (cfg2.slots t 2)) (hstage2_2 ((cfg2.slots t 2).cast nbuf2_2))
    (Y (0 : Fin 3)) (Y (1 : Fin 3)) (Y (2 : Fin 3)) _)
  isplitl [H0 H1 H2]
  · isplitl [H0]; · iexact H0
    isplitl [H1]; · iexact H1
    iexact H2
  iintro ⟨H0, H1, H2⟩
  isplitl [HΦ]; · iexact HΦ
  isplitl [Ho]; · iexact Ho
  isplitl [H0]
  · iexists (Y (0 : Fin 3)); isplitr; · ipureintro; rfl
    iexact H0
  isplitl [H1]
  · iexists (Y (1 : Fin 3)); isplitr; · ipureintro; rfl
    iexact H1
  iexists (k2_pay1 (Y (0 : Fin 3)) (Y (1 : Fin 3)))
  isplitr
  · ipureintro
    intro y k j k0 k2 j0 j1 h
    let k' : S1x1x16384.Idx := fun | 0 => ⟨0, Nat.one_pos⟩ | 1 => ⟨0, Nat.one_pos⟩ | 2 => ⟨(k 2).val, (k 2).isLt⟩
    let j' : S1x16384x128.Idx := fun | 0 => ⟨0, Nat.one_pos⟩ | 1 => ⟨(j 1).val, (j 1).isLt⟩ | 2 => ⟨(j 2).val, (j 2).isLt⟩
    have hp := finds2_1 d g p r t _ (hY (1 : Fin 3)) k' k k0 rfl
    exact (k2_pay1_apply _ _ y k' j' k2 j1 (by rw [hp]; exact h)).trans (finds2_0 d g p r t _ (hY (0 : Fin 3)) j' j j0 rfl rfl)
  · iexact H2

end Cert.Proof.Run

end
-- ==== Proof.Calls.lean ====
/-
  The two TensorCore calls as statements of the program: from the arrays they read and write, to the same with the written
  one at what the region leaves.
-/
module

public import proofs.«01_k».proof.Proof.Arrays

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The set of a whole array's view. -/
theorem whole_set (b : Ref sig .tc) : (Memref.whole b).view.set = Finset.univ := (Memref.isWhole_whole b).set_eq_univ

/-- A whole array held over its view's set is held over all of its indices. -/
theorem whole_held (d : Dev nD) (b : Ref sig .tc) (q : PosShare TreeShare) (f : Buf (Elt F) (hLoc d b)) :
    (hLoc d b ↦[(Memref.whole b).view.set]{q} f : sProp 𝕄) = hLoc d b ↦[Finset.univ]{q} f := by rw [whole_set]

/-- An array that ends at known contents, held over its view's set, is held whole at those contents. -/
theorem input_after (d : Dev nD) (b : Ref sig .tc) (q : PosShare TreeShare) (x : Buf (Elt F) (hLoc d b)) :
    iprop(∃ G : Buf (Elt F) (hLoc d b), ⌜G = x⌝ ∗ hLoc d b ↦[(Memref.whole b).view.set]{q} G)
      ⊢ (iprop(hLoc d b ↦[Finset.univ]{q} x) : sProp 𝕄) := by
  rw [whole_set]
  iintro ⟨%G, %h, H⟩
  subst h
  iexact H

/-- An array that ends at contents with some property, held over its view's set, is held whole at contents with what follows from it. -/
theorem output_after (d : Dev nD) (b : Ref sig .tc) (q : PosShare TreeShare) (R Q : Buf (Elt F) (hLoc d b) → Prop) (h : ∀ G, R G → Q G) :
    iprop(∃ G : Buf (Elt F) (hLoc d b), ⌜R G⌝ ∗ hLoc d b ↦[(Memref.whole b).view.set]{q} G)
      ⊢ (iprop(∃ G : Buf (Elt F) (hLoc d b), ⌜Q G⌝ ∗ hLoc d b ↦[Finset.univ]{q} G) : sProp 𝕄) := by
  rw [whole_set]
  iintro ⟨%G, %hG, H⟩
  iexists G
  isplitr
  · ipureintro; exact h G hG
  · iexact H

/-! ## The arrays before and after -/

variable (x : S64x1000000.Idx → F .f32) (f : S524288x128.Idx → F .f32) (d : Dev nD)

/-- The packing region's arrays at entry: the table in two halves, and the packed table. -/
theorem pack_arrays : ((packData x f d).arrays (packData x f d).A : sProp 𝕄)
    = iprop((hLoc d main_v0 ↦[Finset.univ]{fullShare.left} x) ∗ (hLoc d main_v0 ↦[Finset.univ]{fullShare.right} x) ∗ hLoc d main_v1 ↦[Finset.univ]{fullShare} f) := by
  unfold Pipeline.RDat.arrays
  rw [bigSep_W0]
  exact congrArg₂ BI.BIBase.sep (whole_held d main_v0 fullShare.left x)
    (congrArg₂ BI.BIBase.sep (whole_held d main_v0 fullShare.right x) (whole_held d main_v1 fullShare f))

variable [∀ e, Nonempty (Elt F e)]

/-- What the packed table holds after the region. -/
theorem pack_after (G : S524288x128.Idx → F .f32) (h : (packData x f d).ArrAt (2 : Fin 3) cfg0.N G) (i : S524288x128.Idx) :
    packedOK x (i 0).val (i 1).val (G i) := by
  obtain ⟨X, hX, hG⟩ := h.exists_exact
  classical
  rw [hG (Function.update (fun _ _ _ => Classical.arbitrary _) (2 : Fin 3) X) fun u _ _ => by rw [Function.update_self]]
  refine Pipeline.Dat.arrAt_forall_of_covers ((packData x f d).withAfter _) (2 : Fin 3)
    (fun (i : S524288x128.Idx) (v : F .f32) => packedOK x (i 0).val (i 1).val v) (by decide +kernel) (fun t ht y => ?_) i
  rw [Pipeline.RDat.withAfter_after, Function.update_self]
  obtain ⟨Y, -, hY⟩ := hX t t.isLt ht
  obtain ⟨i0, i1⟩ := index0_2 t
  have h := hY (win0_2.xinj (grid0.coords t) y)
  have e0 : (((win0_2.rect t).emb y) 0).val = 16384 * t.val + (y 0).val := by
    rw [win0_2.rect_emb_val t y 0, i0]; exact congrArg (· + (y 0).val) (Nat.mul_comm _ _)
  have e1 : (((win0_2.rect t).emb y) 1).val = (y 1).val := by
    rw [win0_2.rect_emb_val t y 1, i1]; exact (congrArg (· + (y 1).val) (Nat.zero_mul _)).trans (Nat.zero_add _)
  show packedOK x (((win0_2.rect t).emb y) 0).val (((win0_2.rect t).emb y) 1).val (X t (win0_2.xinj (grid0.coords t) y))
  rw [e0, e1]
  exact h

/-- The packing region's arrays at the end: the table, and the packed table holding what it should. -/
theorem pack_arraysAt : ((packData x f d).arraysAt cfg0.N : sProp 𝕄)
    ⊢ iprop((hLoc d main_v0 ↦[Finset.univ]{fullShare.left} x) ∗ (hLoc d main_v0 ↦[Finset.univ]{fullShare.right} x)
      ∗ ∃ G : S524288x128.Idx → F .f32, ⌜∀ i, packedOK x (i 0).val (i 1).val (G i)⌝ ∗ hLoc d main_v1 ↦[Finset.univ]{fullShare} G) := by
  unfold Pipeline.RDat.arraysAt
  rw [bigSep_W0, (packData x f d).ArrAt_in (0 : Fin 3) rfl, (packData x f d).ArrAt_in (1 : Fin 3) rfl]
  exact BIClass.sep_mono (input_after d main_v0 fullShare.left x) (BIClass.sep_mono (input_after d main_v0 fullShare.right x)
    (output_after d main_v1 fullShare _ _ (pack_after x f d)))

variable (g : S26x16384x128.Idx → F .f32) (p : S26x1x16384.Idx → BitVec 32) (r : S26x64x16384.Idx → F .f32)

/-- The selecting region's arrays at entry. -/
theorem select_arrays : ((selectData g p r d).arrays (selectData g p r d).A : sProp 𝕄)
    = iprop((hLoc d main_v7 ↦[Finset.univ]{fullShare} g) ∗ (hLoc d main_v11 ↦[Finset.univ]{fullShare} p) ∗ hLoc d main_v12 ↦[Finset.univ]{fullShare} r) := by
  unfold Pipeline.RDat.arrays
  rw [bigSep_W2]
  exact congrArg₂ BI.BIBase.sep (whole_held d main_v7 fullShare g)
    (congrArg₂ BI.BIBase.sep (whole_held d main_v11 fullShare p) (whole_held d main_v12 fullShare r))

/-- What the result holds after the region. -/
theorem select_after (G : S26x64x16384.Idx → F .f32) (h : (selectData g p r d).ArrAt (2 : Fin 3) cfg2.N G) (i : S26x64x16384.Idx) :
    pickedOK g p (i 0).val (i 1).val (i 2).val (G i) := by
  obtain ⟨X, hX, hG⟩ := h.exists_exact
  classical
  rw [hG (Function.update (fun _ _ _ => Classical.arbitrary _) (2 : Fin 3) X) fun u _ _ => by rw [Function.update_self]]
  refine Pipeline.Dat.arrAt_forall_of_covers ((selectData g p r d).withAfter _) (2 : Fin 3)
    (fun (i : S26x64x16384.Idx) (v : F .f32) => pickedOK g p (i 0).val (i 1).val (i 2).val v) (by decide +kernel) (fun t ht y => ?_) i
  rw [Pipeline.RDat.withAfter_after, Function.update_self]
  obtain ⟨Y, -, hY⟩ := hX t t.isLt ht
  obtain ⟨i0, i1, i2⟩ := index2_2 t
  have h := hY (win2_2.xinj (grid2.coords t) y)
  have y0 : (y 0).val = 0 := Nat.lt_one_iff.mp (y 0).isLt
  have e0 : (((win2_2.rect t).emb y) 0).val = t.val := by
    rw [win2_2.rect_emb_val t y 0, i0, y0]; exact (Nat.add_zero _).trans (Nat.mul_one _)
  have e1 : (((win2_2.rect t).emb y) 1).val = (y 1).val := by
    rw [win2_2.rect_emb_val t y 1, i1]; exact (congrArg (· + (y 1).val) (Nat.zero_mul _)).trans (Nat.zero_add _)
  have e2 : (((win2_2.rect t).emb y) 2).val = (y 2).val := by
    rw [win2_2.rect_emb_val t y 2, i2]; exact (congrArg (· + (y 2).val) (Nat.zero_mul _)).trans (Nat.zero_add _)
  show pickedOK g p (((win2_2.rect t).emb y) 0).val (((win2_2.rect t).emb y) 1).val (((win2_2.rect t).emb y) 2).val (X t (win2_2.xinj (grid2.coords t) y))
  rw [e0, e1, e2]
  exact h

/-- The selecting region's arrays at the end. -/
theorem select_arraysAt : ((selectData g p r d).arraysAt cfg2.N : sProp 𝕄)
    ⊢ iprop((hLoc d main_v7 ↦[Finset.univ]{fullShare} g) ∗ (hLoc d main_v11 ↦[Finset.univ]{fullShare} p)
      ∗ ∃ G : S26x64x16384.Idx → F .f32, ⌜∀ i, pickedOK g p (i 0).val (i 1).val (i 2).val (G i)⌝ ∗ hLoc d main_v12 ↦[Finset.univ]{fullShare} G) := by
  unfold Pipeline.RDat.arraysAt
  rw [bigSep_W2, (selectData g p r d).ArrAt_in (0 : Fin 3) rfl, (selectData g p r d).ArrAt_in (1 : Fin 3) rfl]
  exact BIClass.sep_mono (input_after d main_v7 fullShare g) (BIClass.sep_mono (input_after d main_v11 fullShare p)
    (output_after d main_v12 fullShare _ _ (select_after d g p r)))

/-! ## The statements -/

variable [FloatOps F]

/-- The packing region's body meets its obligation. -/
theorem data_pack (d : Dev nD) : (data x f g p r 0 d).BodyObligation (defs₀ (F := F)) 𝒱₀ none Set.univ := pack_obligation x f d
/-- The selecting region's body meets its obligation. -/
theorem data_select (d : Dev nD) : (data x f g p r 1 d).BodyObligation (defs₀ (F := F)) 𝒱₀ none Set.univ := select_obligation d g p r

/-- What the packing region's body is handed apart from its windows. -/
theorem data_pack_rest (d : Dev nD) (t : Fin ((Pipeline.pin (pcfgs (F := F)) adm 0).N + 1)) :
    (data x f g p r 0 d).Φ t = Pipeline.scopedRest (Pipeline.pin (pcfgs (F := F)) adm 0).spec d := by
  delta data packData
  dsimp only

/-- What the selecting region's body is handed apart from its windows. -/
theorem data_select_rest (d : Dev nD) (t : Fin ((Pipeline.pin (pcfgs (F := F)) adm 1).N + 1)) :
    (data x f g p r 1 d).Φ t = Pipeline.scopedRest (Pipeline.pin (pcfgs (F := F)) adm 1).spec d := by
  delta data selectData
  dsimp only

/-- The packing region's arrays at the end, as one of the two regions. -/
theorem data_pack_end : ((data x f g p r 0 d).arraysAt (Pipeline.pin (pcfgs (F := F)) adm 0).N : sProp 𝕄)
    = (packData x f d).arraysAt cfg0.N := rfl

/-- The selecting region's arrays at the end, as one of the two regions. -/
theorem data_select_end : ((data x f g p r 1 d).arraysAt (Pipeline.pin (pcfgs (F := F)) adm 1).N : sProp 𝕄)
    = (selectData g p r d).arraysAt cfg2.N := rfl

/-- The packing call, from the table and any packed table: the packed table ends holding what it should. -/
theorem wp_pack (Φ : PUnit → sProp 𝕄) :
    iprop(levAts (K (F := F)).L (K (F := F)).lev ∗ boundary (T d) ∗ (hLoc d main_v0 ↦[Finset.univ]{fullShare} x) ∗ (hLoc d main_v1 ↦[Finset.univ]{fullShare} f)
        ∗ owed (F := F) d 0 ∗ regionGhost (F := F) 0 d
        ∗ ((boundary (T d) ∗ (hLoc d main_v0 ↦[Finset.univ]{fullShare} x)
            ∗ (∃ G : S524288x128.Idx → F .f32, ⌜∀ i, packedOK x (i 0).val (i 1).val (G i)⌝ ∗ hLoc d main_v1 ↦[Finset.univ]{fullShare} G)
            ∗ owed (F := F) d 0) -∗ Φ ⟨⟩))
      ⊢ wp frame (wpE ((K (F := F)).defs D) 𝒱 (T d) none) Set.univ (Prog.lift (.customCall (SparseCore.inner (Pipeline.entry (0 : Fin 2))) ())) Φ := by
  refine BIBase.Entails.trans ?_ (wp_region (data x f (fun _ => Classical.arbitrary (Elt F .f32)) (fun _ => 0) (fun _ => Classical.arbitrary (Elt F .f32))) 0 0 winFacts₀0 block_pos0 stage_whole0 rfl
    (data_pack x f _ _ _) (fun _ _ => rfl) (fun _ _ => rfl) (data_pack_rest x f _ _ _) d Φ)
  iintro ⟨HL, Hb, H0, H1, HO, Hg, Hk⟩
  isplitl [HL]; · iexact HL
  isplitl [Hb]; · iexact Hb
  isplitl [H0 H1]
  · ihave H0' := (pointsTo_share (PosShare.mem_left_op_right fullShare)).1 $$ H0
    icases H0' with ⟨Hl, Hr⟩
    ihave H := (Entails.of_eq (pack_arrays x f d).symm) $$ [Hl Hr H1]
    · isplitl [Hl]; · iexact Hl
      isplitl [Hr]; · iexact Hr
      iexact H1
    iexact H
  isplitl [HO]; · iexact HO
  isplitl [Hg]; · iexact Hg
  iintro ⟨Hb, Ha, HO⟩
  iapply Hk
  ihave Ha0 := (Entails.of_eq (data_pack_end x f d _ _ _)) $$ Ha
  ihave Ha' := (pack_arraysAt x f d) $$ Ha0
  icases Ha' with ⟨Hl, Hr, H1⟩
  isplitl [Hb]; · iexact Hb
  isplitl [Hl Hr]
  · iapply (pointsTo_share (PosShare.mem_left_op_right fullShare)).2
    isplitl [Hl]; · iexact Hl
    iexact Hr
  isplitl [H1]; · iexact H1
  iexact HO

/-- The selecting call, from the gathered rows and the parities. -/
theorem wp_select (Φ : PUnit → sProp 𝕄) :
    iprop(levAts (K (F := F)).L (K (F := F)).lev ∗ boundary (T d) ∗ (hLoc d main_v7 ↦[Finset.univ]{fullShare} g) ∗ (hLoc d main_v11 ↦[Finset.univ]{fullShare} p)
        ∗ (hLoc d main_v12 ↦[Finset.univ]{fullShare} r) ∗ owed (F := F) d 1 ∗ regionGhost (F := F) 1 d
        ∗ ((boundary (T d) ∗ (hLoc d main_v7 ↦[Finset.univ]{fullShare} g) ∗ (hLoc d main_v11 ↦[Finset.univ]{fullShare} p)
            ∗ (∃ G : S26x64x16384.Idx → F .f32, ⌜∀ i, pickedOK g p (i 0).val (i 1).val (i 2).val (G i)⌝ ∗ hLoc d main_v12 ↦[Finset.univ]{fullShare} G)
            ∗ owed (F := F) d 1) -∗ Φ ⟨⟩))
      ⊢ wp frame (wpE ((K (F := F)).defs D) 𝒱 (T d) none) Set.univ (Prog.lift (.customCall (SparseCore.inner (Pipeline.entry (1 : Fin 2))) ())) Φ := by
  refine BIBase.Entails.trans ?_ (wp_region (data (fun _ => Classical.arbitrary (Elt F .f32)) (fun _ => Classical.arbitrary (Elt F .f32)) g p r) 1 1 winFacts2.to₀ block_pos2 stage_whole2 rfl
    (data_select _ _ g p r) (fun _ _ => rfl) (fun _ _ => rfl) (data_select_rest _ _ g p r) d Φ)
  iintro ⟨HL, Hb, H0, H1, H2, HO, Hg, Hk⟩
  isplitl [HL]; · iexact HL
  isplitl [Hb]; · iexact Hb
  isplitl [H0 H1 H2]
  · ihave H := (Entails.of_eq (select_arrays d g p r).symm) $$ [H0 H1 H2]
    · isplitl [H0]; · iexact H0
      isplitl [H1]; · iexact H1
      iexact H2
    iexact H
  isplitl [HO]; · iexact HO
  isplitl [Hg]; · iexact Hg
  iintro ⟨Hb, Ha, HO⟩
  iapply Hk
  ihave Ha0 := (Entails.of_eq (data_select_end _ _ d g p r)) $$ Ha
  ihave Ha' := (select_arraysAt d g p r) $$ Ha0
  icases Ha' with ⟨H0, H1, H2⟩
  isplitl [Hb]; · iexact Hb
  isplitl [H0]; · iexact H0
  isplitl [H1]; · iexact H1
  isplitl [H2]; · iexact H2
  iexact HO

end Cert.Proof.Run

end
-- ==== Proof.Host.lean ====
/-
  The operations of `@main` that compute one array from others, each as a statement from the arrays it touches held whole
  to the same with the computed one at its value.
-/
module

public import proofs.«01_k».proof.Proof.Calls

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 1) (Elt F) ℕ UU ℕ

/-- An array of the TensorCore among a device's buffers. -/
abbrev dRef (b : Ref sig .tc) : DevRef τ sig := Proc.devRef (τ := τ) .tc b

/-- Contents of every buffer, of which nothing is asked. -/
abbrev anyV : Valuation τ sig (Elt F) := fun _ _ => Classical.arbitrary _

/-- An operation that writes one array from nothing. -/
theorem wp_op0 (d : Dev nD) (y : Ref sig .tc) (op : HloOp τ sig (Elt F)) (hb : op.bufs = {dRef y}) (hf : op.fresh = ∅)
    (w v : Buf (Elt F) (hLoc d y)) (hv : ∀ V : Valuation τ sig (Elt F), op.result V (dRef y) = v) (Φ : PUnit → sProp 𝕄) :
    iprop(boundary (T d) ∗ (hLoc d y ↦{fullShare} w) ∗ ((boundary (T d) ∗ (hLoc d y ↦{fullShare} v)) -∗ Φ ⟨⟩))
      ⊢ wp frame (wpE ((K (F := F)).defs D) 𝒱 (T d) none) Set.univ (hlo rfl op (fun _ => .ret ⟨⟩)) Φ := by
  have key : ∀ V : Valuation τ sig (Elt F), (held (T d) {dRef y} V : sProp 𝕄) = (hLoc d y ↦{fullShare} V (dRef y)) := fun V => by
    unfold held; rw [bigSep_singleton]
  have h0 := key (Function.update anyV (dRef y) w)
  have h1 := key (op.result (Function.update anyV (dRef y) w))
  rw [Function.update_self] at h0
  rw [hv] at h1
  iintro ⟨Hb, Hy, Hk⟩
  iapply (wp_hlo_within 𝒱 (T d) none Set.univ (op := op) (S := {dRef y}) (by rw [hb]) (V := Function.update anyV (dRef y) w) hf) $$ [Hb Hy]
  · isplitl [Hb]; · iexact Hb
    ihave Hy' := (Entails.of_eq h0.symm) $$ Hy
    iexact Hy'
  iintro ⟨Hb, Hh⟩
  ihave Hy' := (Entails.of_eq h1) $$ Hh
  rw [wp_ret]; imodintro
  iapply Hk
  isplitl [Hb]; · iexact Hb
  iexact Hy'

/-- An operation that writes one array from another. -/
theorem wp_op1 (d : Dev nD) (x y : Ref sig .tc) (hxy : dRef x ≠ dRef y) (op : HloOp τ sig (Elt F)) (hb : op.bufs = {dRef x, dRef y})
    (hw : op.writes = {dRef y}) (hf : op.fresh = ∅) (u : Buf (Elt F) (hLoc d x)) (w v : Buf (Elt F) (hLoc d y))
    (hv : ∀ V : Valuation τ sig (Elt F), V (dRef x) = u → op.result V (dRef y) = v) (Φ : PUnit → sProp 𝕄) :
    iprop(boundary (T d) ∗ (hLoc d x ↦{fullShare} u) ∗ (hLoc d y ↦{fullShare} w)
        ∗ ((boundary (T d) ∗ (hLoc d x ↦{fullShare} u) ∗ (hLoc d y ↦{fullShare} v)) -∗ Φ ⟨⟩))
      ⊢ wp frame (wpE ((K (F := F)).defs D) 𝒱 (T d) none) Set.univ (hlo rfl op (fun _ => .ret ⟨⟩)) Φ := by
  have key : ∀ V : Valuation τ sig (Elt F), (held (T d) {dRef x, dRef y} V : sProp 𝕄)
      = iprop((hLoc d x ↦{fullShare} V (dRef x)) ∗ (hLoc d y ↦{fullShare} V (dRef y))) := fun V => by
    unfold held; rw [SparseCore.bigSep_insert' (by rwa [Finset.mem_singleton]), bigSep_singleton]
  have hx : Function.update (Function.update (anyV (F := F)) (dRef x) u) (dRef y) w (dRef x) = u := by
    rw [Function.update_of_ne hxy, Function.update_self]
  have h0 := key (Function.update (Function.update anyV (dRef x) u) (dRef y) w)
  have h1 := key (op.result (Function.update (Function.update anyV (dRef x) u) (dRef y) w))
  rw [Function.update_self, hx] at h0
  rw [hv _ hx, op.result_of_not_mem _ (by rw [hw, Finset.mem_singleton]; exact hxy), hx] at h1
  iintro ⟨Hb, Hx, Hy, Hk⟩
  iapply (wp_hlo_within 𝒱 (T d) none Set.univ (op := op) (S := {dRef x, dRef y}) (by rw [hb])
    (V := Function.update (Function.update anyV (dRef x) u) (dRef y) w) hf) $$ [Hb Hx Hy]
  · isplitl [Hb]; · iexact Hb
    ihave H := (Entails.of_eq h0.symm) $$ [Hx Hy]
    · isplitl [Hx]; · iexact Hx
      iexact Hy
    iexact H
  iintro ⟨Hb, Hh⟩
  ihave H := (Entails.of_eq h1) $$ Hh
  icases H with ⟨Hx, Hy⟩
  rw [wp_ret]; imodintro
  iapply Hk
  isplitl [Hb]; · iexact Hb
  isplitl [Hx]; · iexact Hx
  iexact Hy

/-- An operation that writes one array from two others. -/
theorem wp_op2 (d : Dev nD) (a b y : Ref sig .tc) (hab : dRef a ≠ dRef b) (hay : dRef a ≠ dRef y) (hby : dRef b ≠ dRef y)
    (op : HloOp τ sig (Elt F)) (hb : op.bufs = {dRef a, dRef b, dRef y}) (hw : op.writes = {dRef y}) (hf : op.fresh = ∅)
    (u : Buf (Elt F) (hLoc d a)) (u' : Buf (Elt F) (hLoc d b)) (w v : Buf (Elt F) (hLoc d y))
    (hv : ∀ V : Valuation τ sig (Elt F), V (dRef a) = u → V (dRef b) = u' → op.result V (dRef y) = v) (Φ : PUnit → sProp 𝕄) :
    iprop(boundary (T d) ∗ (hLoc d a ↦{fullShare} u) ∗ (hLoc d b ↦{fullShare} u') ∗ (hLoc d y ↦{fullShare} w)
        ∗ ((boundary (T d) ∗ (hLoc d a ↦{fullShare} u) ∗ (hLoc d b ↦{fullShare} u') ∗ (hLoc d y ↦{fullShare} v)) -∗ Φ ⟨⟩))
      ⊢ wp frame (wpE ((K (F := F)).defs D) 𝒱 (T d) none) Set.univ (hlo rfl op (fun _ => .ret ⟨⟩)) Φ := by
  have key : ∀ V : Valuation τ sig (Elt F), (held (T d) {dRef a, dRef b, dRef y} V : sProp 𝕄)
      = iprop((hLoc d a ↦{fullShare} V (dRef a)) ∗ (hLoc d b ↦{fullShare} V (dRef b)) ∗ (hLoc d y ↦{fullShare} V (dRef y))) := fun V => by
    unfold held
    rw [SparseCore.bigSep_insert' (by rw [Finset.mem_insert, Finset.mem_singleton]; exact fun h => h.elim hab hay),
      SparseCore.bigSep_insert' (by rwa [Finset.mem_singleton]), bigSep_singleton]
  have hVa : Function.update (Function.update (Function.update (anyV (F := F)) (dRef a) u) (dRef b) u') (dRef y) w (dRef a) = u := by
    rw [Function.update_of_ne hay, Function.update_of_ne hab, Function.update_self]
  have hVb : Function.update (Function.update (Function.update (anyV (F := F)) (dRef a) u) (dRef b) u') (dRef y) w (dRef b) = u' := by
    rw [Function.update_of_ne hby, Function.update_self]
  have h0 := key (Function.update (Function.update (Function.update anyV (dRef a) u) (dRef b) u') (dRef y) w)
  have h1 := key (op.result (Function.update (Function.update (Function.update anyV (dRef a) u) (dRef b) u') (dRef y) w))
  rw [Function.update_self, hVa, hVb] at h0
  rw [hv _ hVa hVb, op.result_of_not_mem _ (by rw [hw, Finset.mem_singleton]; exact hay), hVa,
    op.result_of_not_mem _ (by rw [hw, Finset.mem_singleton]; exact hby), hVb] at h1
  iintro ⟨Hb, Ha, Hc, Hy, Hk⟩
  iapply (wp_hlo_within 𝒱 (T d) none Set.univ (op := op) (S := {dRef a, dRef b, dRef y}) (by rw [hb])
    (V := Function.update (Function.update (Function.update anyV (dRef a) u) (dRef b) u') (dRef y) w) hf) $$ [Hb Ha Hc Hy]
  · isplitl [Hb]; · iexact Hb
    ihave H := (Entails.of_eq h0.symm) $$ [Ha Hc Hy]
    · isplitl [Ha]; · iexact Ha
      isplitl [Hc]; · iexact Hc
      iexact Hy
    iexact H
  iintro ⟨Hb, Hh⟩
  ihave H := (Entails.of_eq h1) $$ Hh
  icases H with ⟨Ha, Hc, Hy⟩
  rw [wp_ret]; imodintro
  iapply Hk
  isplitl [Hb]; · iexact Hb
  isplitl [Ha]; · iexact Ha
  isplitl [Hc]; · iexact Hc
  iexact Hy

/-! ## The operations by their kind -/

/-- A constant. -/
theorem wp_nullary (d : Dev nD) (y : Ref sig .tc) (v : y.ty.Contents (Elt F)) (hy) (w : Buf (Elt F) (hLoc d y)) (Φ : PUnit → sProp 𝕄) :
    iprop(boundary (T d) ∗ (hLoc d y ↦{fullShare} w) ∗ ((boundary (T d) ∗ (hLoc d y ↦{fullShare} v)) -∗ Φ ⟨⟩))
      ⊢ wp frame (wpE ((K (F := F)).defs D) 𝒱 (T d) none) Set.univ (hlo rfl (StableHlo.nullary y v hy) (fun _ => .ret ⟨⟩)) Φ :=
  wp_op0 d y _ rfl rfl w v (fun V => StableHlo.nullary_result y v hy V) Φ

/-- A function of one array. -/
theorem wp_unary (d : Dev nD) (x y : Ref sig .tc) (hxy : dRef x ≠ dRef y) (f : x.ty.Contents (Elt F) → y.ty.Contents (Elt F)) (hx hy)
    (u : Buf (Elt F) (hLoc d x)) (w v : Buf (Elt F) (hLoc d y)) (hv : f u = v) (Φ : PUnit → sProp 𝕄) :
    iprop(boundary (T d) ∗ (hLoc d x ↦{fullShare} u) ∗ (hLoc d y ↦{fullShare} w)
        ∗ ((boundary (T d) ∗ (hLoc d x ↦{fullShare} u) ∗ (hLoc d y ↦{fullShare} v)) -∗ Φ ⟨⟩))
      ⊢ wp frame (wpE ((K (F := F)).defs D) 𝒱 (T d) none) Set.univ (hlo rfl (StableHlo.unary x y f hx hy) (fun _ => .ret ⟨⟩)) Φ :=
  wp_op1 d x y hxy _ rfl rfl rfl u w v (fun V h => (StableHlo.unary_result x y f hx hy V).trans (by rw [h]; exact hv)) Φ

/-- A reshaping. -/
theorem wp_reshape (d : Dev nD) (x y : Ref sig .tc) (hxy : dRef x ≠ dRef y) (he : x.ty.elt = y.ty.elt) (hn : x.ty.shape.ShapeCasts y.ty.shape) (hx hy)
    (u : Buf (Elt F) (hLoc d x)) (w v : Buf (Elt F) (hLoc d y)) (hv : (fun i => he ▸ shapeCast y.ty.shape u hn i) = v) (Φ : PUnit → sProp 𝕄) :
    iprop(boundary (T d) ∗ (hLoc d x ↦{fullShare} u) ∗ (hLoc d y ↦{fullShare} w)
        ∗ ((boundary (T d) ∗ (hLoc d x ↦{fullShare} u) ∗ (hLoc d y ↦{fullShare} v)) -∗ Φ ⟨⟩))
      ⊢ wp frame (wpE ((K (F := F)).defs D) 𝒱 (T d) none) Set.univ (hlo rfl (StableHlo.reshape x y he hn hx hy) (fun _ => .ret ⟨⟩)) Φ :=
  wp_op1 d x y hxy _ rfl rfl rfl u w v (fun V h => (StableHlo.reshape_result x y he hn hx hy V).trans (by rw [h]; exact hv)) Φ

/-- A function of two arrays. -/
theorem wp_binary (d : Dev nD) (a b y : Ref sig .tc) (hab : dRef a ≠ dRef b) (hay : dRef a ≠ dRef y) (hby : dRef b ≠ dRef y)
    (f : a.ty.Contents (Elt F) → b.ty.Contents (Elt F) → y.ty.Contents (Elt F)) (ha hb hy)
    (u : Buf (Elt F) (hLoc d a)) (u' : Buf (Elt F) (hLoc d b)) (w v : Buf (Elt F) (hLoc d y)) (hv : f u u' = v) (Φ : PUnit → sProp 𝕄) :
    iprop(boundary (T d) ∗ (hLoc d a ↦{fullShare} u) ∗ (hLoc d b ↦{fullShare} u') ∗ (hLoc d y ↦{fullShare} w)
        ∗ ((boundary (T d) ∗ (hLoc d a ↦{fullShare} u) ∗ (hLoc d b ↦{fullShare} u') ∗ (hLoc d y ↦{fullShare} v)) -∗ Φ ⟨⟩))
      ⊢ wp frame (wpE ((K (F := F)).defs D) 𝒱 (T d) none) Set.univ (hlo rfl (StableHlo.binary a b y f ha hb hy) (fun _ => .ret ⟨⟩)) Φ :=
  wp_op2 d a b y hab hay hby _ rfl rfl rfl u u' w v (fun V h h' => (StableHlo.binary_result a b y f ha hb hy V).trans (by rw [h, h']; exact hv)) Φ

end Cert.Proof.Run

end
-- ==== Proof.Lookup.lean ====
/-
  What the host's operations compute from the row numbers and the table, and the equation of the whole: the packed table,
  the gathered rows and the picked halves together are the table's rows that the row numbers name.
-/
module

public import proofs.«01_k».proof.Proof.Arrays

@[expose] public section

noncomputable section

namespace Cert.Proof.Run

open Cert.KernelIdeal Cert.KernelIdeal.Facts Cert.KernelIdeal.Gen
open Idealize.ShloMosaic

variable {F : FTy → Type}

/-! ## The host's arrays -/

/-- The table transposed. -/
def tableT (tbl : S1000000x64.Idx → F .f32) : S64x1000000.Idx → F .f32 :=
  transpose S64x1000000 [1, 0] tbl transposes_S1000000x64_S64x1000000_1_0

/-- The row numbers transposed. -/
def idsT (ids : S16384x26.Idx → BitVec 32) : S26x16384.Idx → BitVec 32 :=
  transpose S26x16384 [1, 0] ids transposes_S16384x26_S26x16384_1_0

/-- The row numbers in blocks of 256. -/
def idsBlocks (ids : S16384x26.Idx → BitVec 32) : S1664x1x256.Idx → BitVec 32 :=
  shapeCast S1664x1x256 (idsT ids) shapeCasts_S26x16384_S1664x1x256

/-- The mask of the packed table's rows, in every place. -/
def mask : S1664x1x256.Idx → BitVec 32 := broadcastInDim S1664x1x256 ![] bcast_S_S1664x1x256 (constantI S_ 32 524287#32)

/-- The packed table's row of each row number. -/
def packedRows (ids : S16384x26.Idx → BitVec 32) : S1664x1x256.Idx → BitVec 32 := andi (idsBlocks ids) mask

/-- The number of the packed table's rows as a shift, in every place. -/
def shift : S26x16384.Idx → BitVec 32 := broadcastInDim S26x16384 ![] bcast_S_S26x16384 (constantI S_ 32 19#32)

/-- The half of each row number. -/
def halves (ids : S16384x26.Idx → BitVec 32) : S26x16384.Idx → BitVec 32 := Host.shrsi (idsT ids) shift

/-- The half of each row number, in the selecting call's shape. -/
def parity (ids : S16384x26.Idx → BitVec 32) : S26x1x16384.Idx → BitVec 32 :=
  shapeCast S26x1x16384 (halves ids) shapeCasts_S26x16384_S26x1x16384

/-- The gathered rows, in the selecting call's shape. -/
def rowsOf (G : S425984x128.Idx → F .f32) : S26x16384x128.Idx → F .f32 :=
  shapeCast S26x16384x128 G shapeCasts_S425984x128_S26x16384x128

/-- The result from the selecting call's. -/
def resultOf (R : S26x64x16384.Idx → F .f32) : S16384x26x64.Idx → F .f32 :=
  transpose S16384x26x64 [2, 0, 1] R transposes_S26x64x16384_S16384x26x64_2_0_1

/-! ## The lookup -/

/-- The place of the row number of batch `b`, field `f`. -/
def idAt (i : S16384x26x64.Idx) : S16384x26.Idx := fun | 0 => i 0 | 1 => i 1

/-- The table's rows that the row numbers name. -/
def lookup (ids : S16384x26.Idx → BitVec 32) (tbl : S1000000x64.Idx → F .f32) : S16384x26x64.Idx → F .f32 := fun i =>
  tbl fun
    | 0 => (⟨(ids (idAt i)).toNat % 1000000, Nat.mod_lt _ (by decide)⟩ : Fin 1000000)
    | 1 => i 2

variable (ids : S16384x26.Idx → BitVec 32)

/-- The packed table's rows are what the row numbers' low bits name. -/
theorem packedRows_lt (y : S1664x1x256.Idx) : (packedRows ids y).toNat < 524288 := by
  have h : packedRows ids y = idsBlocks ids y &&& 524287#32 := rfl
  rw [h, BitVec.toNat_and]
  exact lt_of_le_of_lt Nat.and_le_right (by decide)

/-- A row number's packed row. -/
theorem low_bits (v : BitVec 32) (h : v.toNat < 1000000) : (v &&& 524287#32).toNat = v.toNat % 524288 := by
  rw [BitVec.toNat_and]
  exact Nat.and_two_pow_sub_one_eq_mod v.toNat 19

/-- A row number's half. -/
theorem high_bits (v : BitVec 32) (h : v.toNat < 1000000) : (IntOp.shrsi .host v 19#32).toNat = v.toNat / 524288 := by
  have hm : v.msb = false := by rw [BitVec.msb_eq_false_iff_two_mul_lt]; omega
  unfold IntOp.shrsi
  rw [if_pos (by decide), BitVec.sshiftRight', BitVec.sshiftRight_eq_of_msb_false hm, BitVec.toNat_ushiftRight, Nat.shiftRight_eq_div_pow]
  rfl

/-- The row numbers, in the order of the gathered rows. -/
theorem idsBlocks_row (f : Fin 26) (b : Fin 16384) (r : Fin 425984) (hr : r.val = f.val * 16384 + b.val) (k : S16384x26.Idx)
    (k0 : (k 0).val = b.val) (k1 : (k 1).val = f.val) : idsBlocks ids (rowAt r) = ids k := by
  unfold idsBlocks
  let z : S26x16384.Idx := fun | 0 => f | 1 => b
  refine (shapeCast_apply _ _ (rowAt r) z ?_).trans (transpose_apply _ _ _ z k fun a => ?_)
  · rw [Shape.rowMajor_val_two, Shape.rowMajor_val_three]
    show f.val * 16384 + b.val = (r.val / 256 * 1 + 0) * 256 + r.val % 256
    omega
  · match a with
    | 0 => exact k1
    | 1 => exact k0

/-- The halves, place by place. -/
theorem parity_apply (j : S26x1x16384.Idx) (k : S16384x26.Idx) (k0 : (k 0).val = (j 2).val) (k1 : (k 1).val = (j 0).val) :
    parity ids j = IntOp.shrsi .host (ids k) 19#32 := by
  unfold parity
  let z : S26x16384.Idx := fun | 0 => j 0 | 1 => j 2
  have hj : (j 1).val = 0 := Nat.lt_one_iff.mp (j 1).isLt
  refine (shapeCast_apply _ _ j z ?_).trans ?_
  · rw [Shape.rowMajor_val_two, Shape.rowMajor_val_three]
    show (j 0).val * 16384 + (j 2).val = ((j 0).val * 1 + (j 1).val) * 16384 + (j 2).val
    omega
  · show IntOp.shrsi .host (idsT ids z) 19#32 = _
    have hz : idsT ids z = ids k := transpose_apply _ _ _ z k fun a => by
      match a with
      | 0 => exact k1
      | 1 => exact k0
    rw [hz]

variable (tbl : S1000000x64.Idx → F .f32)

/-- What the gathered rows are to hold. -/
def gatheredOK (e : S425984x128.Idx) (v : F .f32) : Prop :=
  packedOK (tableT tbl) ((packedRows ids (rowAt (e 0))).toNat % 524288) (e 1).val v

/-- Rows gathered from a packed table hold what they are to hold. -/
theorem gathered_ok (X : S524288x128.Idx → F .f32) (hX : ∀ i, packedOK (tableT tbl) (i 0).val (i 1).val (X i)) (e : S425984x128.Idx) :
    gatheredOK ids tbl e (gathered X (packedRows ids) e) := by
  have h := hX fun
    | 0 => (⟨(packedRows ids (rowAt (e 0))).toNat % 524288, Nat.mod_lt _ (by decide)⟩ : Fin 524288)
    | 1 => e 1
  exact h

/-- The whole: from gathered rows that hold what they are to hold, the halves picked by the parities are the lookup. -/
theorem lookup_eq (hids : ∀ k, (ids k).toNat < 1000000) (G : S425984x128.Idx → F .f32) (hG : ∀ e, gatheredOK ids tbl e (G e))
    (R : S26x64x16384.Idx → F .f32) (hR : ∀ i, pickedOK (rowsOf G) (parity ids) (i 0).val (i 1).val (i 2).val (R i)) :
    resultOf R = lookup ids tbl := by
  funext i
  have i0 : (i 0).val < 16384 := (i 0).isLt
  have i1 : (i 1).val < 26 := (i 1).isLt
  have i2 : (i 2).val < 64 := (i 2).isLt
  have hv := hids (idAt i)
  let z : S26x64x16384.Idx := fun | 0 => i 1 | 1 => i 2 | 2 => i 0
  have e1 : resultOf R i = R z := transpose_apply _ _ _ i z fun a => by
    match a with
    | 0 => rfl
    | 1 => rfl
    | 2 => rfl
  rw [e1]
  let k : S26x1x16384.Idx := fun | 0 => i 1 | 1 => (0 : Fin 1) | 2 => i 0
  have hc : (i 2).val + 64 * ((ids (idAt i)).toNat / 524288) < 128 := by omega
  let c : Fin 128 := ⟨(i 2).val + 64 * ((ids (idAt i)).toNat / 524288), hc⟩
  let j : S26x16384x128.Idx := fun | 0 => i 1 | 1 => i 0 | 2 => c
  have hp : parity ids k = IntOp.shrsi .host (ids (idAt i)) 19#32 := parity_apply ids k (idAt i) rfl rfl
  have hpn : (parity ids k).toNat = (ids (idAt i)).toNat / 524288 := by rw [hp, high_bits _ hv]
  have e2 : R z = rowsOf G j := by
    refine hR z k j rfl rfl rfl rfl ?_
    by_cases h : (ids (idAt i)).toNat / 524288 = 1
    · refine .inl ⟨BitVec.eq_of_toNat_eq (hpn.trans h), ?_⟩
      show (i 2).val + 64 * ((ids (idAt i)).toNat / 524288) = (i 2).val + 64
      rw [h]
    · refine .inr ⟨fun e => h (hpn.symm.trans (by rw [e]; rfl)), ?_⟩
      show (i 2).val + 64 * ((ids (idAt i)).toNat / 524288) = (i 2).val
      omega
  rw [e2]
  have hr : (i 1).val * 16384 + (i 0).val < 425984 := by omega
  let r : Fin 425984 := ⟨(i 1).val * 16384 + (i 0).val, hr⟩
  let e : S425984x128.Idx := fun | 0 => r | 1 => c
  have e3 : rowsOf G j = G e := by
    refine shapeCast_apply _ _ j e ?_
    rw [Shape.rowMajor_val_two, Shape.rowMajor_val_three]
    rfl
  rw [e3]
  have hw : (packedRows ids (rowAt r)).toNat % 524288 = (ids (idAt i)).toNat % 524288 := by
    have h : packedRows ids (rowAt r) = ids (idAt i) &&& 524287#32 := by
      rw [← idsBlocks_row ids (i 1) (i 0) r rfl (idAt i) rfl rfl]; rfl
    rw [h, low_bits _ hv, Nat.mod_mod]
  let q : S64x1000000.Idx := fun | 0 => i 2 | 1 => (⟨(ids (idAt i)).toNat, hv⟩ : Fin 1000000)
  have e4 : G e = tableT tbl q := by
    refine hG e q ?_
    rw [show (packedRows ids (rowAt (e 0))).toNat % 524288 = (ids (idAt i)).toNat % 524288 from hw]
    show ((i 2).val = (i 2).val + 64 * ((ids (idAt i)).toNat / 524288) ∧ (ids (idAt i)).toNat = (ids (idAt i)).toNat % 524288)
      ∨ ((i 2).val + 64 = (i 2).val + 64 * ((ids (idAt i)).toNat / 524288) ∧ (ids (idAt i)).toNat = (ids (idAt i)).toNat % 524288 + 524288)
    omega
  rw [e4]
  refine transpose_apply _ _ _ q _ fun a => ?_
  match a with
  | 0 => rfl
  | 1 => exact Nat.mod_eq_of_lt hv

end Cert.Proof.Run

end
-- ==== Proof.Main.lean ====
/-
  `@main` on a device's TensorCore, statement by statement: the table transposed and packed, the row numbers brought into
  blocks and masked, the SparseCore call, the rows reshaped, the halves computed and picked, the result transposed. And the
  run of the whole program: it ends, quiescent, with the lookup in its result and the arguments as they were.
-/
module

public import proofs.«01_k».proof.Proof.Host
public import proofs.«01_k».proof.Proof.Lookup

@[expose] public section

noncomputable section

namespace Cert.Proof.Run

open Cert.KernelIdeal Cert.KernelIdeal.Facts Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ)

/-- The row numbers at launch. -/
abbrev idsOf (d : Dev nD) : S16384x26.Idx → BitVec 32 := m (hLoc d main_arg0)
/-- The table at launch. -/
abbrev tblOf (d : Dev nD) : S1000000x64.Idx → F .f32 := m (hLoc d main_arg1)

/-- What the SparseCore call is about: a packed table of the launch's table, the row numbers' packed rows, and gathered
    rows that hold what they are to hold. -/
def spec : Spec F where
  tab d x := ∀ i : S524288x128.Idx, packedOK (tableT (tblOf m d)) (i 0).val (i 1).val (x i)
  ids d := packedRows (idsOf m d)
  out d := gatheredOK (idsOf m d) (tblOf m d)
  ids_lt d y := packedRows_lt (idsOf m d) y
  out_of_tab d x hx e := gathered_ok (idsOf m d) (tblOf m d) x hx e

/-- The program's arrays at launch, one by one. -/
theorem unscopedBufs_eq (d : Dev nD) (W : (b : Ref sig .tc) → Buf (Elt F) ((d.tc : Thread nD τ).loc b)) :
    (unscopedBufs d W : sProp 𝕄)
      = iprop((hLoc d main_arg0 ↦{fullShare} W main_arg0) ∗ (hLoc d main_arg1 ↦{fullShare} W main_arg1)
          ∗ (hLoc d main_v0 ↦{fullShare} W main_v0) ∗ (hLoc d main_v1 ↦{fullShare} W main_v1) ∗ (hLoc d main_v2 ↦{fullShare} W main_v2)
          ∗ (hLoc d main_v3 ↦{fullShare} W main_v3) ∗ (hLoc d main_c ↦{fullShare} W main_c) ∗ (hLoc d main_v4 ↦{fullShare} W main_v4)
          ∗ (hLoc d main_v5 ↦{fullShare} W main_v5) ∗ (hLoc d main_v6 ↦{fullShare} W main_v6) ∗ (hLoc d main_v7 ↦{fullShare} W main_v7)
          ∗ (hLoc d main_v8 ↦{fullShare} W main_v8) ∗ (hLoc d main_c_0 ↦{fullShare} W main_c_0) ∗ (hLoc d main_v9 ↦{fullShare} W main_v9)
          ∗ (hLoc d main_v10 ↦{fullShare} W main_v10) ∗ (hLoc d main_v11 ↦{fullShare} W main_v11) ∗ (hLoc d main_v12 ↦{fullShare} W main_v12)
          ∗ hLoc d main_v13 ↦{fullShare} W main_v13) := by
  unfold unscopedBufs
  rw [show (Finset.univ.filter fun b : Ref sig .tc => ¬ b.isScoped) = {main_arg0, main_arg1, main_v0, main_v1, main_v2, main_v3, main_c, main_v4, main_v5,
      main_v6, main_v7, main_v8, main_c_0, main_v9, main_v10, main_v11, main_v12, main_v13} by decide +kernel,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- What the TensorCore owes after `n` calls is part of where it stands then. -/
theorem owed_of_standing (d : Dev nD) (n : ℕ) :
    ((K (F := F)).tcSt EH d n : sProp 𝕄) ⊢ iprop(owed (F := F) d n ∗ (owed (F := F) d n -∗ (K (F := F)).tcSt EH d n)) := by
  unfold SparseCore.Cfg.tcSt owed
  iintro ⟨HO, HR⟩
  isplitl [HO]; · iexact HO
  iintro HO
  isplitl [HO]; · iexact HO
  iexact HR

/-- After the only call. -/
theorem standing_one (d : Dev nD) : ((K (F := F)).tcSt EH d ((0 : Fin 1).val + 1) : sProp 𝕄) = (K (F := F)).tcSt EH d 1 := rfl

/-- A device's ghost state is its two regions'. -/
theorem ghost_two (d : Dev nD) : (deviceGhost (F := F) d : sProp 𝕄) ⊢ iprop(regionGhost (F := F) 0 d ∗ regionGhost (F := F) 1 d) := by
  unfold deviceGhost
  rw [show (Finset.univ : Finset (Fin 2)) = {0, 1} by decide, SparseCore.bigSep_insert' (by decide), bigSep_singleton]

variable [FloatOps F] [∀ e, Nonempty (Elt F e)] (ρ : Dev nD → PrngReg)

/-- What `@main` leaves: the arguments as they were, and in the result the lookup if the row numbers are rows of the table. -/
def FIN (d : Dev nD) : sProp 𝕄 :=
  iprop((hLoc d main_arg0 ↦{fullShare} m (hLoc d main_arg0)) ∗ (hLoc d main_arg1 ↦{fullShare} m (hLoc d main_arg1))
    ∗ ∃ r : S16384x26x64.Idx → F .f32, ⌜(∀ k, (idsOf m d k).toNat < 1000000) → r = lookup (idsOf m d) (tblOf m d)⌝ ∗ hLoc d main_v13 ↦{fullShare} r)

set_option maxRecDepth 16384 in
/-- `@main` on a device's TensorCore. -/
theorem hmain (κ : GSem nD τ sig → ℕ) (d : Dev nD) :
    iprop((K (F := F)).ctx EH (P (spec m)) κ ∗ (K (F := F)).tcSt EH d 0 ∗ (K (F := F)).tcRes m ρ d ∗ deviceGhost (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨A0, A1, V0, V1, V2, V3, C, V4, V5, V6, V7, V8, C0, V9, V10, V11, V12, V13⟩, Hts, -⟩, HG⟩
  ihave #HL := (SparseCore.Cfg.ctx_levAts κ) $$ Hctx
  ihave HG' := (ghost_two d) $$ HG
  icases HG' with ⟨HG0, HG1⟩
  -- the table transposed and packed
  iapply (wp_unary d main_arg1 main_v0 (by decide) _ _ _ (m (hLoc d main_arg1)) (m (hLoc d main_v0)) (tableT (tblOf m d)) rfl _)
  isplitl [Hb]; · iexact Hb
  isplitl [A1]; · iexact A1
  isplitl [V0]; · iexact V0
  iintro ⟨Hb, A1, V0⟩
  ihave H := (owed_of_standing d 0) $$ Hst
  icases H with ⟨HO, Hst⟩
  iapply (wp_pack (tableT (tblOf m d)) (m (hLoc d main_v1)) d _)
  isplitr; · iexact HL
  isplitl [Hb]; · iexact Hb
  isplitl [V0]; · iexact V0
  isplitl [V1]; · iexact V1
  isplitl [HO]; · iexact HO
  isplitl [HG0]; · iexact HG0
  iintro ⟨Hb, V0, ⟨%X, %hX, V1⟩, HO⟩
  ihave Hst := Hst $$ HO
  -- the row numbers in blocks, masked
  iapply (wp_unary d main_arg0 main_v2 (by decide) _ _ _ (m (hLoc d main_arg0)) (m (hLoc d main_v2)) (idsT (idsOf m d)) rfl _)
  isplitl [Hb]; · iexact Hb
  isplitl [A0]; · iexact A0
  isplitl [V2]; · iexact V2
  iintro ⟨Hb, A0, V2⟩
  iapply (wp_reshape d main_v2 main_v3 (by decide) _ _ _ _ (idsT (idsOf m d)) (m (hLoc d main_v3)) (idsBlocks (idsOf m d)) rfl _)
  isplitl [Hb]; · iexact Hb
  isplitl [V2]; · iexact V2
  isplitl [V3]; · iexact V3
  iintro ⟨Hb, V2, V3⟩
  iapply (wp_nullary d main_c _ _ (m (hLoc d main_c)) _)
  isplitl [Hb]; · iexact Hb
  isplitl [C]; · iexact C
  iintro ⟨Hb, C⟩
  iapply (wp_unary d main_c main_v4 (by decide) _ _ _ (constantI S_ 32 524287#32) (m (hLoc d main_v4)) mask rfl _)
  isplitl [Hb]; · iexact Hb
  isplitl [C]; · iexact C
  isplitl [V4]; · iexact V4
  iintro ⟨Hb, C, V4⟩
  iapply (wp_binary d main_v3 main_v4 main_v5 (by decide) (by decide) (by decide) _ _ _ _ (idsBlocks (idsOf m d)) mask (m (hLoc d main_v5)) (packedRows (idsOf m d)) rfl _)
  isplitl [Hb]; · iexact Hb
  isplitl [V3]; · iexact V3
  isplitl [V4]; · iexact V4
  isplitl [V5]; · iexact V5
  iintro ⟨Hb, V3, V4, V5⟩
  -- the SparseCore call
  iapply ((K (F := F)).wp_run (D (F := F)) 𝒱 (EH := EH) (P := P (spec m)) κ d 0)
  isplitr; · iexact Hctx
  isplitl [Hst]; · iexact Hst
  isplitl [V1 V5 V6]
  · iapply (call_in (spec m) d X hX (m (hLoc d main_v6)))
    isplitl [V1]; · iexact V1
    isplitl [V5]; · iexact V5
    iexact V6
  iintro ⟨Hst, Hdn⟩
  ihave Hdn' := (call_out (spec m) d (m (hLoc d main_v6))) $$ Hdn
  icases Hdn' with ⟨%G, %hG, V6⟩
  -- the gathered rows reshaped, the halves
  iapply (wp_reshape d main_v6 main_v7 (by decide) _ _ _ _ G (m (hLoc d main_v7)) (rowsOf G) rfl _)
  isplitl [Hb]; · iexact Hb
  isplitl [V6]; · iexact V6
  isplitl [V7]; · iexact V7
  iintro ⟨Hb, V6, V7⟩
  iapply (wp_unary d main_arg0 main_v8 (by decide) _ _ _ (m (hLoc d main_arg0)) (m (hLoc d main_v8)) (idsT (idsOf m d)) rfl _)
  isplitl [Hb]; · iexact Hb
  isplitl [A0]; · iexact A0
  isplitl [V8]; · iexact V8
  iintro ⟨Hb, A0, V8⟩
  iapply (wp_nullary d main_c_0 _ _ (m (hLoc d main_c_0)) _)
  isplitl [Hb]; · iexact Hb
  isplitl [C0]; · iexact C0
  iintro ⟨Hb, C0⟩
  iapply (wp_unary d main_c_0 main_v9 (by decide) _ _ _ (constantI S_ 32 19#32) (m (hLoc d main_v9)) shift rfl _)
  isplitl [Hb]; · iexact Hb
  isplitl [C0]; · iexact C0
  isplitl [V9]; · iexact V9
  iintro ⟨Hb, C0, V9⟩
  iapply (wp_binary d main_v8 main_v9 main_v10 (by decide) (by decide) (by decide) _ _ _ _ (idsT (idsOf m d)) shift (m (hLoc d main_v10)) (halves (idsOf m d)) rfl _)
  isplitl [Hb]; · iexact Hb
  isplitl [V8]; · iexact V8
  isplitl [V9]; · iexact V9
  isplitl [V10]; · iexact V10
  iintro ⟨Hb, V8, V9, V10⟩
  iapply (wp_reshape d main_v10 main_v11 (by decide) _ _ _ _ (halves (idsOf m d)) (m (hLoc d main_v11)) (parity (idsOf m d)) rfl _)
  isplitl [Hb]; · iexact Hb
  isplitl [V10]; · iexact V10
  isplitl [V11]; · iexact V11
  iintro ⟨Hb, V10, V11⟩
  -- the halves picked, the result transposed
  ihave Hst := (Entails.of_eq (standing_one d)) $$ Hst
  ihave H := (owed_of_standing d 1) $$ Hst
  icases H with ⟨HO, Hst⟩
  iapply (wp_select d (rowsOf G) (parity (idsOf m d)) (m (hLoc d main_v12)) _)
  isplitr; · iexact HL
  isplitl [Hb]; · iexact Hb
  isplitl [V7]; · iexact V7
  isplitl [V11]; · iexact V11
  isplitl [V12]; · iexact V12
  isplitl [HO]; · iexact HO
  isplitl [HG1]; · iexact HG1
  iintro ⟨Hb, V7, V11, ⟨%R, %hR, V12⟩, HO⟩
  ihave Hst := Hst $$ HO
  iapply (wp_unary d main_v12 main_v13 (by decide) _ _ _ R (m (hLoc d main_v13)) (resultOf R) rfl _)
  isplitl [Hb]; · iexact Hb
  isplitl [V12]; · iexact V12
  isplitl [V13]; · iexact V13
  iintro ⟨Hb, V12, V13⟩
  imodintro
  isplitl [Hst]; · iexact Hst
  isplitl [A0 A1 V13]
  · unfold FIN
    isplitl [A0]; · iexact A0
    isplitl [A1]; · iexact A1
    iexists (resultOf R)
    isplitr
    · ipureintro; exact fun h => lookup_eq (idsOf m d) (tblOf m d) h G hG R hR
    · iexact V13
  isplitl [Hb]; · iexact Hb
  iexact Hts

/-- What is read of device `d`'s final state. -/
def fq (d : Dev nD) (s' : Phys nD τ sig (Elt F)) : Prop :=
  s'.mem.mem (hLoc d main_arg0) = m (hLoc d main_arg0) ∧ s'.mem.mem (hLoc d main_arg1) = m (hLoc d main_arg1)
    ∧ ((∀ k, (idsOf m d k).toNat < 1000000) → s'.mem.mem (hLoc d main_v13) = lookup (idsOf m d) (tblOf m d))

set_option maxRecDepth 16384 in
theorem hfin (d : Dev nD) (s' : Phys nD τ sig (Elt F)) : iprop(FIN m d ∗ SI s') ⊢ (⌜fq m d s'⌝ : sProp 𝕄) := by
  unfold FIN
  iintro ⟨⟨H0, H1, %r, %hr, H2⟩, HSI⟩
  ihave H := (persistent_entails_right (SI_pointsTo_agree (st := s') (ℓ := hLoc d main_arg0) (I := Finset.univ) (q := fullShare) (f := m (hLoc d main_arg0)))) $$ [HSI H0]
  · isplitl [HSI]; · iexact HSI
    iexact H0
  icases H with ⟨%h0, HSI, -⟩
  ihave H := (persistent_entails_right (SI_pointsTo_agree (st := s') (ℓ := hLoc d main_arg1) (I := Finset.univ) (q := fullShare) (f := m (hLoc d main_arg1)))) $$ [HSI H1]
  · isplitl [HSI]; · iexact HSI
    iexact H1
  icases H with ⟨%h1, HSI, -⟩
  ihave H := (SI_pointsTo_agree (st := s') (ℓ := hLoc d main_v13) (I := Finset.univ) (q := fullShare) (f := r)) $$ [HSI H2]
  · isplitl [HSI]; · iexact HSI
    iexact H2
  icases H with %h2
  ipureintro
  exact ⟨funext fun i => h0 i (Finset.mem_univ i), funext fun i => h1 i (Finset.mem_univ i),
    fun h => (funext fun i => h2 i (Finset.mem_univ i)).trans (hr h)⟩

/-- What the run ends with: the arguments as they were, the lookup in the result if the row numbers are rows of the table,
    every semaphore at zero. -/
def QC : PUnit × MemSt nD τ sig (Elt F) → Prop := fun r =>
  (∀ d : Dev nD, r.2.mem (hLoc d main_arg0) = m (hLoc d main_arg0) ∧ r.2.mem (hLoc d main_arg1) = m (hLoc d main_arg1)
    ∧ ((∀ k, (idsOf m d k).toNat < 1000000) → r.2.mem (hLoc d main_v13) = lookup (idsOf m d) (tblOf m d))) ∧ r.2.sem = fun _ => 0

/-- The program's run. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (spec m)) (A := ∅) facts v₀
    (fun q hq => match q with | 0 => nomatch hq)
    (fun q _ => match q with | 0 => tileObl (spec m) facts)
    (fun q _ => match q with | 0 => SparseCore.Cfg.VecSplit.of_plain (vecSplit (spec m)))
    m ρ main (fun d => deviceGhost (F := F) d) (FIN m) (u₀ (F := F)) (sep_elim_left.trans (hu₀ (spec m))) (hmain m ρ) (fq m) (hfin m) (QC m)
    (fun _ h hz => ⟨h, hz⟩)

end Cert.Proof.Run

end
-- ==== Proof.Same.lean ====
/-
  The kernel and its idealization are one program, read over two kinds of floats: what is proved of the idealization over any
  floats is the kernel's over bits.
-/
module

public import proofs.«01_k».proof.Proof.Gen.Kernel
public import proofs.«01_k».proof.Proof.Main
public import Idealize.ShloMosaic.PureOps.BitExact

@[expose] public section

noncomputable section

namespace Cert.Proof

open Idealize.ShloMosaic Idealize.SL.Sem

/-- The bodies of the calls are the same, one by one. -/
theorem bodies_eq : Cert.Kernel.defs₀ (F := Bits) = Cert.KernelIdeal.defs₀ (F := Bits) := by
  funext p l a
  match p, l, a with
  | .tc, 0, _ => rfl
  | .tc, 1, _ => rfl
  | .tc, 2, _ => rfl
  | .scVector _ _, 0, _ => rfl
  | .scVector _ _, 1, _ => rfl
  | .scVector _ _, 2, _ => rfl
  | .scScalar _, 0, _ => rfl
  | .scScalar _, 1, _ => rfl
  | .scScalar _, 2, _ => rfl

/-- The procedures of the two programs are the same. -/
theorem defs_eq : Cert.Kernel.defs (F := Bits) = Cert.KernelIdeal.defs (F := Bits) := by
  unfold Cert.Kernel.defs
  rw [bodies_eq]
  rfl

/-- The kernel's run, from the idealization's. -/
theorem run_kernel (m : (ℓ : Loc Cert.Kernel.nD Cert.Kernel.τ Cert.Kernel.sig) → Buf (Elt Bits) ℓ) (ρ : Dev Cert.Kernel.nD → PrngReg) :
    θ_run (Cert.Kernel.defs (F := Bits)) (Cert.Kernel.threads (F := Bits)) ⟨m, fun _ => 0, ρ⟩ (Run.QC (F := Bits) m) := by
  rw [defs_eq]
  exact Run.run_main (F := Bits) m ρ

end Cert.Proof

end
-- ==== Proof.Range.lean ====
/-
  What the claims' precondition says of the row numbers: each of them is the number of a row of the table.
-/
module

public import proofs.«01_k».proof.Proof.Gen.Pre_in_range
public import Idealize.ShloMosaic.Lib.ReduceAll

@[expose] public section

noncomputable section

namespace Cert.Proof.Range

open Cert.Pre_in_range Cert.Pre_in_range.Gen
open Idealize.ShloMosaic

variable {F : FTy → Type} [FloatOps F]

/-- A word that is at least 0 and less than 1000000, both signed, is a natural number below 1000000. -/
theorem toNat_lt (v : BitVec 32) (h0 : IntOp.cmpi .sge v 0#32 = 1#1) (h1 : IntOp.cmpi .slt v 1000000#32 = 1#1) :
    v.toNat < 1000000 := by
  rw [IntOp.cmpi_sge] at h0
  rw [IntOp.cmpi_slt] at h1
  have e0 : (0#32 : BitVec 32).toInt = 0 := by decide
  have e1 : (1000000#32 : BitVec 32).toInt = 1000000 := by decide
  rw [e0] at h0
  rw [e1] at h1
  rw [BitVec.toInt_eq_toNat_cond] at h0 h1
  split at h0 <;> omega

/-- Under the precondition every row number is below the number of the table's rows. -/
theorem ids_lt (ids : S16384x26.Idx → BitVec 32) (tbl : S1000000x64.Idx → F .f32)
    (h : Cert.Pre_in_range.fn (F := F) ids tbl = fun _ => 1#1) (k : S16384x26.Idx) : (ids k).toNat < 1000000 := by
  have e := congrFun h (Shape.Idx.first h_S_)
  obtain ⟨e0, e1⟩ := IntOp.andi_eq_one.1 e
  haveI : Subsingleton S_.Idx := ⟨fun a b => funext fun i => i.elim0⟩
  exact toNat_lt (ids k) (Host.reduce_andi_all _ _ _ _ _ e0 k) (Host.reduce_andi_all _ _ _ _ _ e1 k)

end Cert.Proof.Range

end
-- ==== Proof.RefValue.lean ====
/-
  The reference's run: its result is the lookup, if the row numbers are rows of the table.
-/
module

public import proofs.«01_k».proof.Proof.Gen.ReferenceIdeal.Run
public import proofs.«01_k».proof.Proof.Lookup
public import Idealize.ShloMosaic.Lib.ReduceAll
public import Idealize.ShloMosaic.Lib.WordCmp
public import Idealize.ShloMosaic.Lib.Quiescent

@[expose] public section

noncomputable section

namespace Cert.Proof.Ref

open Cert.ReferenceIdeal Cert.ReferenceIdeal.Gen
open Idealize.ShloMosaic Idealize.ShloMosaic.TcCoe Idealize.SL.Sem

variable {F : FTy → Type} [FloatOps F]

/-- A row number, a negative one counted from the table's end. -/
def wrapped (ids : S16384x26.Idx → BitVec 32) : S16384x26x1.Idx → BitVec 32 :=
  broadcastInDim S16384x26x1 ![0, 1] bcast_S16384x26_S16384x26x1_0_1 (select (cmpi .slt ids (broadcastInDim S16384x26 ![] bcast_S_S16384x26 (constantI S_ 32 0#32))) (addi ids (broadcastInDim S16384x26 ![] bcast_S_S16384x26 (constantI S_ 32 1000000#32))) ids)

/-- Whether a counted row number is a row of the table. -/
def valid (ids : S16384x26.Idx → BitVec 32) : S16384x26x1.Idx → BitVec 1 :=
  andi (cmpi .sge (wrapped ids) (broadcastInDim S16384x26x1 ![] bcast_S_S16384x26x1 (constantI S_ 32 0#32))) (cmpi .sle (wrapped ids) (broadcastInDim S16384x26x1 ![0, 1, 2] bcast_S1x1x1_S16384x26x1_0_1_2 (broadcastInDim S1x1x1 ![2] bcast_S1_S1x1x1_2 (constantI S1 32 999999#32))))

/-- The reference's result. -/
def taken (ids : S16384x26.Idx → BitVec 32) (tbl : S1000000x64.Idx → F .f32) : S16384x26x64.Idx → F .f32 :=
  select (broadcastInDim S16384x26x64 ![0, 1] bcast_S16384x26_S16384x26x64_0_1 (Host.reduce IntOp.andi (valid ids) (constantI S_ 1 1#1) reducesTo_S16384x26x1_S16384x26_d2 h_S_)) (Host.gather gather_S1000000x64_S16384x26x1_S16384x26x64_2_0_n_n_0_2_164 tbl (wrapped ids)) (broadcastInDim S16384x26x64 ![] bcast_S_S16384x26x64 (constant S_ .f32 0x7FC00000#32))

/-- A word below 1000000 is not negative. -/
theorem toInt_eq (v : BitVec 32) (h : v.toNat < 1000000) : v.toInt = v.toNat := by
  rw [BitVec.toInt_eq_toNat_cond, if_pos (by omega)]

/-- A row number below 1000000 is counted from the table's start. -/
theorem wrapped_apply (ids : S16384x26.Idx → BitVec 32) (h : ∀ k, (ids k).toNat < 1000000) (j : S16384x26x1.Idx) (k : S16384x26.Idx)
    (k0 : (k 0).val = (j 0).val) (k1 : (k 1).val = (j 1).val) : wrapped ids j = ids k := by
  unfold wrapped
  refine (broadcastInDim_apply _ _ _ j k fun a => ?_).trans ?_
  · match a with
    | 0 => exact k0
    | 1 => exact k1
  · have hn : IntOp.cmpi .slt (ids k) 0#32 = 0#1 := by
      rw [WordCmp.cmpi_slt_eq, toInt_eq _ (h k)]
      exact congrArg BitVec.ofBool (decide_eq_false (not_lt.mpr (Int.natCast_nonneg _)))
    show Scalar.select (IntOp.cmpi .slt (ids k) 0#32) (IntOp.addi (ids k) 1000000#32) (ids k) = ids k
    rw [hn]
    rfl

/-- Every row number below 1000000 is a row of the table. -/
theorem valid_apply (ids : S16384x26.Idx → BitVec 32) (h : ∀ k, (ids k).toNat < 1000000) (j : S16384x26x1.Idx) : valid ids j = 1#1 := by
  have hw := wrapped_apply ids h j (fun | 0 => j 0 | 1 => j 1) rfl rfl
  have hk := h (fun | 0 => j 0 | 1 => j 1)
  rw [← hw] at hk
  refine IntOp.andi_eq_one.2 ⟨IntOp.cmpi_sge.2 ?_, IntOp.cmpi_sle.2 ?_⟩
  · rw [toInt_eq _ hk]
    exact Int.natCast_nonneg _
  · rw [toInt_eq _ hk]
    show _ ≤ (999999#32 : BitVec 32).toInt
    rw [show (999999#32 : BitVec 32).toInt = 999999 by decide]
    omega

/-- The gather reads the table at the row number, clamped to the table. -/
theorem gather_apply (tbl : S1000000x64.Idx → F .f32) (w : S16384x26x1.Idx → BitVec 32) (i : S16384x26x64.Idx) (j : S16384x26x1.Idx)
    (j0 : (j 0).val = (i 0).val) (j1 : (j 1).val = (i 1).val) (p : S1000000x64.Idx)
    (p0 : (p 0).val = min (w j).toInt.toNat 999999) (p1 : (p 1).val = (i 2).val) :
    Host.gather gather_S1000000x64_S16384x26x1_S16384x26x64_2_0_n_n_0_2_164 tbl w i = tbl p := by
  let d := gather_S1000000x64_S16384x26x1_S16384x26x64_2_0_n_n_0_2_164
  unfold Host.gather
  congr 1
  funext a
  refine Fin.ext ?_
  show d.start i w a + d.batchCoord i a + d.offCoord i a = _
  rw [GatherDims.batchCoord_eq_zero _ _ _ List.not_mem_nil, Nat.add_zero]
  match a with
  | 0 =>
    have hm : (0 : Fin 2) ∈ d.startIndexMap := List.mem_singleton.mpr rfl
    rw [GatherDims.offCoord_eq_zero _ _ _ (fun h => ((GatherDims.mem_sKept _ _).mp h).1 (List.mem_singleton.mpr rfl)), Nat.add_zero]
    unfold GatherDims.start
    rw [dif_pos hm]
    have hj : d.siIdx i ⟨List.idxOf (0 : Fin 2) d.startIndexMap, List.idxOf_lt_length_iff.2 hm⟩ = j := by
      funext b
      refine Fin.ext ?_
      match b with
      | 0 => exact j0.symm
      | 1 => exact j1.symm
      | 2 => exact (Nat.lt_one_iff.mp (j 2).isLt).symm
    rw [hj]
    exact p0.symm
  | 1 =>
    have hs : d.start i w 1 = 0 := by
      unfold GatherDims.start
      exact dif_neg (by decide)
    have ho : d.offCoord i 1 = (i 2).val := by
      unfold GatherDims.offCoord
      exact dif_pos (by decide)
    rw [hs, ho, Nat.zero_add]
    exact p1.symm

/-- The reference's result is the lookup. -/
theorem taken_eq (ids : S16384x26.Idx → BitVec 32) (tbl : S1000000x64.Idx → F .f32) (h : ∀ k, (ids k).toNat < 1000000) :
    taken ids tbl = Run.lookup ids tbl := by
  funext i
  let j : S16384x26x1.Idx := fun | 0 => i 0 | 1 => i 1 | 2 => (0 : Fin 1)
  have hr : broadcastInDim S16384x26x64 ![0, 1] bcast_S16384x26_S16384x26x64_0_1 (Host.reduce IntOp.andi (valid ids) (constantI S_ 1 1#1) reducesTo_S16384x26x1_S16384x26_d2 h_S_) i = 1#1 :=
    Host.reduce_andi_one _ _ _ _ _ rfl (valid_apply ids h)
  unfold taken
  show Scalar.select _ _ _ = _
  rw [hr, WordCmp.select_one]
  unfold Run.lookup
  have hw : wrapped ids j = ids (Run.idAt i) := wrapped_apply ids h j _ rfl rfl
  refine gather_apply tbl _ i j rfl rfl _ ?_ rfl
  have hk := h (Run.idAt i)
  rw [hw, toInt_eq _ hk]
  show (ids (Run.idAt i)).toNat % 1000000 = _
  rw [Int.toNat_natCast]
  omega

/-- What the reference's run ends with: the result, the arguments as they were, every semaphore at zero. -/
theorem run_main (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v0) = taken (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨h, sem_eq_zero_of_no_sems (by decide) r.2⟩) (Cert.ReferenceIdeal.Value.run m ρ)

end Cert.Proof.Ref

end
-- ==== Proof.lean ====
/-
  The claims of the embedding lookup: the frames of both programs, and the kernel's result equal to the reference's, over
  extended reals and bit for bit. One run of the kernel (Proof/Main.lean) and one of the reference (Proof/RefValue.lean), each
  over any floats, serve them all.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Reference
public import proofs.«01_k».proof.Proof.Gen.Pre_in_range
public import proofs.«01_k».proof.Proof.Same
public import proofs.«01_k».proof.Proof.Range
public import proofs.«01_k».proof.Proof.RefValue
public import Idealize.ShloMosaic.Adequacy
public import Idealize.ShloMosaic.Init

@[expose] public section

noncomputable section

namespace Cert.Proof

open Idealize.ShloMosaic Idealize.SL.Sem

/-! ## The frames, of any arguments -/

/-- The kernel ends with its arguments as they were and every semaphore at zero, whatever the arguments hold. -/
theorem frame_kernel : Cert.quiescent_Kernel := fun m ρ _ =>
  (θ_run Cert.Kernel.defs _ _).mono (fun _ h => ⟨fun c => ⟨(h.1 c).1, (h.1 c).2.1⟩, h.2⟩) (run_kernel m ρ)

/-- The idealized kernel ends with its arguments as they were and every semaphore at zero, whatever the arguments hold. -/
theorem frame_kernel_ideal : Cert.quiescent_KernelIdeal := fun m ρ _ =>
  (θ_run Cert.KernelIdeal.defs _ _).mono (fun _ h => ⟨fun c => ⟨(h.1 c).1, (h.1 c).2.1⟩, h.2⟩) (Run.run_main (F := Ideal) m ρ)

/-- The idealized reference ends with its arguments as they were and every semaphore at zero, whatever the arguments hold. -/
theorem frame_reference_ideal : Cert.quiescent_ReferenceIdeal := fun m ρ _ =>
  (θ_run Cert.ReferenceIdeal.defs _ _).mono (fun _ h => ⟨fun c => (h.1 c).2, h.2⟩) (Ref.run_main (F := Ideal) m ρ)

/-- The reference ends with its arguments as they were and every semaphore at zero, whatever the arguments hold. -/
theorem frame_reference : Cert.quiescent_Reference := fun m ρ _ =>
  (θ_run Cert.ReferenceIdeal.defs _ _).mono (fun _ h => ⟨fun c => (h.1 c).2, h.2⟩) (Ref.run_main (F := Bits) m ρ)

/-! ## The values, of row numbers in range -/

/-- Over extended reals the kernel's result and the reference's are the lookup. -/
theorem algebraic : Cert.algebraic_KernelIdeal_ReferenceIdeal_pre_in_range := by
  intro m g m' g' hpre hm
  have hr := fun c => Range.ids_lt (F := Ideal) _ _ (hpre c)
  refine ⟨fun c => Run.lookup (Run.idsOf m c) (Run.tblOf m c), ?_, ?_⟩
  · exact (θ_run Cert.KernelIdeal.defs _ _).mono (fun _ h c => ⟨(h.1 c).2.2 (hr c), (h.1 c).1, (h.1 c).2.1⟩)
      (Run.run_main (F := Ideal) m g)
  · refine (θ_run Cert.ReferenceIdeal.defs _ _).mono (fun _ h c => ⟨(h.1 c).1.trans ?_, (h.1 c).2⟩) (Ref.run_main (F := Ideal) m' g')
    rw [(hm c).1, (hm c).2]
    exact Ref.taken_eq _ _ (hr c)

/-- Bit for bit the kernel's result and the reference's are the lookup. -/
theorem bitexact : Cert.bitexact_Kernel_Reference_pre_in_range := by
  intro m g m' g' hpre hm
  have hr := fun c => Range.ids_lt (F := Bits) _ _ (hpre c)
  refine ⟨fun c => Run.lookup (F := Bits) (Run.idsOf (F := Bits) m c) (Run.tblOf (F := Bits) m c), ?_, ?_⟩
  · exact (θ_run Cert.Kernel.defs _ _).mono (fun _ h c => ⟨(h.1 c).2.2 (hr c), (h.1 c).1, (h.1 c).2.1⟩) (run_kernel m g)
  · refine (θ_run Cert.ReferenceIdeal.defs _ _).mono (fun _ h c => ⟨(h.1 c).1.trans ?_, (h.1 c).2⟩) (Ref.run_main (F := Bits) m' g')
    refine (congrArg₂ (Ref.taken (F := Bits)) (hm c).1 (hm c).2).trans ?_
    exact Ref.taken_eq _ _ (hr c)

/-- Everything claimed: the frames hold of any arguments, so also of those in range. -/
theorem claim : Cert.Claim := ⟨Cert.Kernel.Gen.facts, Cert.KernelIdeal.Gen.facts, Cert.ReferenceIdeal.Gen.facts, Cert.Reference.Gen.facts, Cert.Pre_in_range.Gen.facts,
  frame_kernel, fun m ρ _ => frame_kernel m ρ trivial, frame_kernel_ideal, fun m ρ _ => frame_kernel_ideal m ρ trivial,
  frame_reference_ideal, fun m ρ _ => frame_reference_ideal m ρ trivial, frame_reference, fun m ρ _ => frame_reference m ρ trivial,
  trivial, algebraic, bitexact⟩

end Cert.Proof

end
